-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x4096 : Shape := ⟨3, ![3, 4096, 4096]⟩
abbrev S3x4096x1 : Shape := ⟨3, ![3, 4096, 1]⟩
abbrev S4096x2048 : Shape := ⟨2, ![4096, 2048]⟩
abbrev S1x2048 : Shape := ⟨2, ![1, 2048]⟩
abbrev S12288x4096 : Shape := ⟨2, ![12288, 4096]⟩
abbrev S12x8x128 : Shape := ⟨3, ![12, 8, 128]⟩
abbrev S12288x1024 : Shape := ⟨2, ![12288, 1024]⟩
abbrev S1024x4096 : Shape := ⟨2, ![1024, 4096]⟩
abbrev S1x8x128 : Shape := ⟨3, ![1, 8, 128]⟩
abbrev S1024x1024 : Shape := ⟨2, ![1024, 1024]⟩
abbrev S1x1x128 : Shape := ⟨3, ![1, 1, 128]⟩
abbrev S1x128 : Shape := ⟨2, ![1, 128]⟩
abbrev S128x128 : Shape := ⟨2, ![128, 128]⟩
abbrev S1024x128 : Shape := ⟨2, ![1024, 128]⟩
abbrev S1024x256 : Shape := ⟨2, ![1024, 256]⟩
abbrev S4096x256 : Shape := ⟨2, ![4096, 256]⟩
abbrev S1x256 : Shape := ⟨2, ![1, 256]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S3x4096x4096, .fp8e4m3⟩
  | .hbm, ⟨1, _⟩ => ⟨S3x4096x1, .f32⟩
  | .hbm, ⟨2, _⟩ => ⟨S4096x2048, .fp8e4m3⟩
  | .hbm, ⟨3, _⟩ => ⟨S1x2048, .f32⟩
  | .hbm, ⟨4, _⟩ => ⟨S12288x4096, .fp8e4m3⟩
  | .hbm, ⟨5, _⟩ => ⟨S12x8x128, .f32⟩
  | .hbm, ⟨6, _⟩ => ⟨S12288x1024, .fp8e4m3⟩
  | .hbm, ⟨7, _⟩ => ⟨S12x8x128, .f32⟩
  | .local _ .vmem, ⟨0, _⟩ => ⟨S1024x4096, .fp8e4m3⟩
  | .local _ .vmem, ⟨1, _⟩ => ⟨S1024x4096, .fp8e4m3⟩
  | .local _ .vmem, ⟨2, _⟩ => ⟨S1x8x128, .f32⟩
  | .local _ .vmem, ⟨3, _⟩ => ⟨S1x8x128, .f32⟩
  | .local _ .vmem, ⟨4, _⟩ => ⟨S4096x2048, .fp8e4m3⟩
  | .local _ .vmem, ⟨5, _⟩ => ⟨S1x2048, .f32⟩
  | .local _ .vmem, ⟨6, _⟩ => ⟨S1024x1024, .fp8e4m3⟩
  | .local _ .vmem, ⟨7, _⟩ => ⟨S1024x1024, .fp8e4m3⟩
  | .local _ .vmem, ⟨8, _⟩ => ⟨S1x8x128, .f32⟩
  | .local _ .vmem, ⟨9, _⟩ => ⟨S1x8x128, .f32⟩
  | .local _ .vmem, ⟨10, _⟩ => ⟨S1024x1024, .f32⟩
  | _, _ => ⟨S3x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x4096x4096 : Shape := ⟨3, ![3, 4096, 4096]⟩
abbrev S3x4096x1 : Shape := ⟨3, ![3, 4096, 1]⟩
abbrev S4096x2048 : Shape := ⟨2, ![4096, 2048]⟩
abbrev S1x2048 : Shape := ⟨2, ![1, 2048]⟩
abbrev S12288x4096 : Shape := ⟨2, ![12288, 4096]⟩
abbrev S12288x1 : Shape := ⟨2, ![12288, 1]⟩
abbrev S12288x1024 : Shape := ⟨2, ![12288, 1024]⟩
abbrev S12x8x128 : Shape := ⟨3, ![12, 8, 128]⟩
abbrev S12288x2048 : Shape := ⟨2, ![12288, 2048]⟩
abbrev S12288 : Shape := ⟨1, ![12288]⟩
abbrev S1x253 : Shape := ⟨2, ![1, 253]⟩
abbrev S12288x253 : Shape := ⟨2, ![12288, 253]⟩

abbrev nBuf : Space → Nat
  | .hbm => 8
  | .vmem => 6
  | .smem => 0
  | _ => 0

abbrev bufTy : (tb : Table) → Fin (tcTables nBuf tb) → BufTy
  | .hbm, ⟨0, _⟩ => ⟨S3x4096x4096, .fp8e4m3⟩
  | .hbm, ⟨1, _⟩ => ⟨S3x4096x1, .f32⟩
  | .hbm, ⟨2, _⟩ => ⟨S4096x2048, .fp8e4m3⟩
  | .hbm, ⟨3, _⟩ => ⟨S1x2048, .f32⟩
  | .hbm, ⟨4, _⟩ => ⟨S12288x4096, .fp8e4m3⟩
  | .hbm, ⟨5, _⟩ => ⟨S12288x1, .f32⟩
  | .hbm, ⟨6, _⟩ => ⟨S12288x1024, .fp8e4m3⟩
  | .hbm, ⟨7, _⟩ => ⟨S12x8x128, .f32⟩
  | .local _ .vmem, ⟨0, _⟩ => ⟨S12288x4096, .fp8e4m3⟩
  | .local _ .vmem, ⟨1, _⟩ => ⟨S12288x1, .f32⟩
  | .local _ .vmem, ⟨2, _⟩ => ⟨S4096x2048, .fp8e4m3⟩
  | .local _ .vmem, ⟨3, _⟩ => ⟨S1x2048, .f32⟩
  | .local _ .vmem, ⟨4, _⟩ => ⟨S12288x1024, .fp8e4m3⟩
  | .local _ .vmem, ⟨5, _⟩ => ⟨S12x8x128, .f32⟩
  | _, _ => ⟨S3x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Pow2.lean ====
/-
  Powers of two as exponent fields. An f32 word whose sign and fraction are zero is one of 256 thresholds: zero at
  exponent field 0, `2^(k-127)` at field `k`, infinity at field 255. The kernel finds a row's exponent field by an
  eight-step binary search over these thresholds and builds the scale and its inverse as words; the quantiser's statement
  takes the least power of two above the row's ratio and divides. Here the two are shown equal for every non-negative
  extended real.
-/
module

public import proofs.«01_k».proof.Defs
public import Idealize.ShloMosaic.PureOps.Ideal.Laws

@[expose] public section

noncomputable section

namespace Cert.Pow2

open Idealize.ShloMosaic

/-- The value of the f32 word with exponent field `k` and nothing else set. -/
def thr (k : ℕ) : EReal := if k = 0 then 0 else if k = 255 then ⊤ else (((2 : ℝ) ^ ((k : ℤ) - 127) : ℝ) : EReal)

/-- The word with exponent field `k`. -/
def fieldWord (k : ℕ) : BitVec 32 := BitVec.ofNat 32 (k * 2 ^ 23)

/-- Below 256, the word with exponent field `k` has sign 0, exponent `k` and fraction 0. -/
theorem fieldWord_parts : ∀ k : Fin 256, (fieldWord k.val).extractLsb' 31 1 = 0#1
    ∧ ((fieldWord k.val).extractLsb' 23 8).toNat = k.val ∧ ((fieldWord k.val).extractLsb' 0 23).toNat = 0 := by
  decide +kernel

/-- The word with exponent field `k` denotes the threshold `thr k`. -/
theorem ofBits_fieldWord {k : ℕ} (hk : k < 256) : Ideal.ofBits .f32 (fieldWord k) = thr k := by
  obtain ⟨h1, h2, h3⟩ := fieldWord_parts ⟨k, hk⟩
  dsimp only at h1 h2 h3
  show Ideal.ieee 8 23 (fieldWord k) = thr k
  unfold Ideal.ieee thr
  simp only [show (8 + 23 : ℕ) = 31 from rfl, h1, h2, h3]
  by_cases h0 : k = 0
  · subst h0; simp
  · by_cases h255 : k = 255
    · subst h255; simp
    · rw [if_neg h0, if_neg h255, if_neg (by simpa using h255), if_neg h0]
      refine congrArg Real.toEReal ?_
      have hz : ((2 : ℝ) ^ 23 : ℝ) = (2 : ℝ) ^ (23 : ℤ) := by norm_num
      rw [if_neg (by simp), one_mul, Nat.add_zero, Nat.cast_pow, Nat.cast_ofNat, hz, ← zpow_add₀ (by norm_num)]
      congr 1
      push_cast
      ring

/-- The least threshold is zero. -/
theorem thr_zero : thr 0 = 0 := rfl
/-- The greatest threshold is infinity. -/
theorem thr_inf : thr 255 = ⊤ := rfl
/-- Exponent field 127 is one. -/
theorem thr_one : thr 127 = 1 := by simp [thr]
/-- Strictly between the two ends the threshold is a real power of two. -/
theorem thr_mid {k : ℕ} (h0 : k ≠ 0) (h : k ≠ 255) : thr k = (((2 : ℝ) ^ ((k : ℤ) - 127) : ℝ) : EReal) := by
  rw [thr, if_neg h0, if_neg h]

/-- The thresholds increase strictly with the exponent field. -/
theorem thr_lt {a b : ℕ} (hab : a < b) (hb : b ≤ 255) : thr a < thr b := by
  have hb0 : b ≠ 0 := by omega
  have ha : a ≠ 255 := by omega
  by_cases h0 : a = 0
  · subst h0
    by_cases h : b = 255
    · subst h; exact EReal.zero_lt_top
    · rw [thr_zero, thr_mid hb0 h]
      exact EReal.coe_pos.mpr (by positivity)
  · rw [thr_mid h0 ha]
    by_cases h : b = 255
    · subst h; exact EReal.coe_lt_top _
    · rw [thr_mid hb0 h]
      exact EReal.coe_lt_coe_iff.mpr (zpow_lt_zpow_right₀ (by norm_num) (by omega))

/-- and weakly. -/
theorem thr_le {a b : ℕ} (hab : a ≤ b) (hb : b ≤ 255) : thr a ≤ thr b := by
  rcases hab.lt_or_eq with h | h
  · exact (thr_lt h hb).le
  · rw [h]

/-- `E` is the exponent field of `v`: the largest field whose threshold does not exceed `v`. -/
def IsField (v : EReal) (E : ℕ) : Prop := E ≤ 255 ∧ ∀ c ≤ 255, v < thr c ↔ E < c

/-- Every non-negative extended real has an exponent field. -/
theorem exists_field {v : EReal} (hv : 0 ≤ v) : ∃ E, IsField v E := by
  classical
  refine ⟨Nat.findGreatest (fun k => thr k ≤ v) 255, Nat.findGreatest_le _, fun c hc => ⟨fun h => ?_, fun h => ?_⟩⟩
  · by_contra hle
    have h1 : thr (Nat.findGreatest (fun k => thr k ≤ v) 255) ≤ v :=
      Nat.findGreatest_spec (P := fun k => thr k ≤ v) (Nat.zero_le 255) (by rw [thr_zero]; exact hv)
    exact absurd (lt_of_lt_of_le h (thr_le (not_lt.mp hle) (Nat.findGreatest_le _))) (not_lt.mpr h1)
  · exact not_le.mp (Nat.findGreatest_is_greatest h hc)

/-! ## The kernel's words -/

/-- One step of the kernel's search: the bit `s` is added unless the word with it already exceeds `v`. -/
def step (v : Ideal .f32) (bits s : BitVec 32) : BitVec 32 :=
  Scalar.select (FloatOps.cmpf .olt v (FloatOps.ofBits .f32 (IntOp.addi bits s))) bits (IntOp.addi bits s)

/-- The search's first four steps. -/
def search4 (v : Ideal .f32) : BitVec 32 :=
  step v (step v (step v (step v 0#32 1073741824#32) 536870912#32) 268435456#32) 134217728#32

/-- The whole search, after the first four steps. -/
def searchTail (v : Ideal .f32) (bits : BitVec 32) : BitVec 32 :=
  step v (step v (step v (step v bits 67108864#32) 33554432#32) 16777216#32) 8388608#32

/-- The scale's exponent field from a word: the word's field and one more, 127 where the field is 0 or 255. -/
def scaleField (bits : BitVec 32) : BitVec 32 :=
  Scalar.select (IntOp.ori (IntOp.cmpi .eq (IntOp.andi (IntOp.shrsi .vector bits 23#32) 255#32) 0#32)
      (IntOp.cmpi .eq (IntOp.andi (IntOp.shrsi .vector bits 23#32) 255#32) 255#32))
    127#32 (IntOp.addi (IntOp.andi (IntOp.shrsi .vector bits 23#32) 255#32) 1#32)

/-- The kernel's scale of a row whose ratio is `v`. -/
def kernelScale (v : Ideal .f32) : Ideal .f32 :=
  FloatOps.ofBits .f32 (IntOp.shli .vector (scaleField (searchTail v (search4 v))) 23#32)

/-- The kernel's inverse scale of a row whose ratio is `v`. -/
def kernelInverse (v : Ideal .f32) : Ideal .f32 :=
  FloatOps.ofBits .f32 (IntOp.shli .vector (IntOp.maxsi (IntOp.subi 254#32 (scaleField (searchTail v (search4 v)))) 0#32) 23#32)

/-- Adding field words adds the fields. -/
theorem addi_fieldWord (a b : ℕ) : IntOp.addi (fieldWord a) (fieldWord b) = fieldWord (a + b) := by
  show fieldWord a + fieldWord b = fieldWord (a + b)
  unfold fieldWord
  rw [← BitVec.ofNat_add, Nat.add_mul]

/-- One step on fields: the search compares the exponent field of `v` with the candidate. -/
theorem step_field {v : EReal} {E : ℕ} (h : IsField v E) (c s : ℕ) (hc : c + s ≤ 255) :
    step v (fieldWord c) (fieldWord s) = fieldWord (if E < c + s then c else c + s) := by
  unfold step
  rw [addi_fieldWord, Ideal.cmpf_def]
  have hb : FloatOps.ofBits (F := Ideal) .f32 (fieldWord (c + s)) = thr (c + s) := ofBits_fieldWord (by omega)
  rw [hb]
  by_cases hlt : E < c + s
  · have : Ideal.cmp .olt v (thr (c + s)) = 1#1 := by simp [Ideal.cmp, (h.2 _ hc).mpr hlt]
    rw [this, if_pos hlt]; rfl
  · have : Ideal.cmp .olt v (thr (c + s)) = 0#1 := by simp [Ideal.cmp, mt (h.2 _ hc).mp hlt]
    rw [this, if_neg hlt]; rfl

/-- The search finds the exponent field. -/
theorem search_eq {v : EReal} {E : ℕ} (h : IsField v E) : searchTail v (search4 v) = fieldWord E := by
  have hE := h.1
  have next : ∀ (s : ℕ) (w : BitVec 32), 0 < s → (∃ c, w = fieldWord c ∧ c ≤ E ∧ E < c + (s + s) ∧ c + (s + s) ≤ 256) →
      ∃ c, step v w (fieldWord s) = fieldWord c ∧ c ≤ E ∧ E < c + s ∧ c + s ≤ 256 := by
    rintro s w hs ⟨c, rfl, h1, h2, h3⟩
    rw [step_field h c s (by omega)]
    refine ⟨_, rfl, ?_⟩
    split <;> omega
  have h1 := next 128 (fieldWord 0) (by omega) ⟨0, rfl, by omega, by omega, by omega⟩
  have h2 := next 64 _ (by omega) h1
  have h3 := next 32 _ (by omega) h2
  have h4 := next 16 _ (by omega) h3
  have h5 := next 8 _ (by omega) h4
  have h6 := next 4 _ (by omega) h5
  have h7 := next 2 _ (by omega) h6
  obtain ⟨c, hc, c1, c2, -⟩ := next 1 _ (by omega) h7
  have : c = E := by omega
  subst this
  exact hc

/-- The scale's field for each of the 256 exponent fields. -/
theorem scaleField_fieldWord : ∀ E : Fin 256,
    scaleField (fieldWord E.val) = BitVec.ofNat 32 (if E.val = 0 ∨ E.val = 255 then 127 else E.val + 1) := by
  decide +kernel

/-- Shifting a field below 256 into place gives its word. -/
theorem shli_field : ∀ k : Fin 256, IntOp.shli .vector (BitVec.ofNat 32 k.val) 23#32 = fieldWord k.val := by
  decide +kernel

/-- 254 less a field, held at zero. -/
theorem inverse_field : ∀ k : Fin 256,
    IntOp.maxsi (IntOp.subi 254#32 (BitVec.ofNat 32 k.val)) 0#32 = BitVec.ofNat 32 (254 - k.val) := by
  decide +kernel

/-- The field of the scale. -/
def sf (E : ℕ) : ℕ := if E = 0 ∨ E = 255 then 127 else E + 1

/-- The scale's field fits in eight bits. -/
theorem sf_lt {E : ℕ} (h : E ≤ 255) : sf E < 256 := by unfold sf; split <;> omega

/-- The kernel's scale is the threshold above `v`'s field, one at the two special fields. -/
theorem kernelScale_eq {v : EReal} {E : ℕ} (h : IsField v E) : kernelScale v = thr (sf E) := by
  have hE := h.1
  unfold kernelScale
  rw [search_eq h, scaleField_fieldWord ⟨E, by omega⟩]
  show FloatOps.ofBits .f32 (IntOp.shli .vector (BitVec.ofNat 32 (sf E)) 23#32) = _
  rw [shli_field ⟨sf E, sf_lt hE⟩]
  exact ofBits_fieldWord (sf_lt hE)

/-- The kernel's inverse is the threshold at the mirrored field. -/
theorem kernelInverse_eq {v : EReal} {E : ℕ} (h : IsField v E) : kernelInverse v = thr (254 - sf E) := by
  have hE := h.1
  unfold kernelInverse
  rw [search_eq h, scaleField_fieldWord ⟨E, by omega⟩]
  show FloatOps.ofBits .f32 (IntOp.shli .vector (IntOp.maxsi (IntOp.subi 254#32 (BitVec.ofNat 32 (sf E))) 0#32) 23#32) = _
  rw [inverse_field ⟨sf E, sf_lt hE⟩, shli_field ⟨254 - sf E, by omega⟩]
  exact ofBits_fieldWord (by omega)

/-! ## The quantiser's statement -/

/-- The word of the least normal number. -/
theorem ofBits_tiny : Ideal.ofBits .f32 0x00800000#32 = thr 1 := ofBits_fieldWord (k := 1) (by omega)
/-- The word of infinity. -/
theorem ofBits_inf : Ideal.ofBits .f32 0x7F800000#32 = (⊤ : EReal) := ofBits_fieldWord (k := 255) (by omega)
/-- The word of one. -/
theorem ofBits_one : Ideal.ofBits .f32 0x3F800000#32 = (1 : EReal) := (ofBits_fieldWord (k := 127) (by omega)).trans thr_one

/-- The 253 powers of two the quantiser chooses among, `2^(j-125)`, are the thresholds from field 2 to field 254. -/
theorem power_eq (j : Fin 253) :
    FloatOps.exp2 (FloatOps.sitofp (F := Ideal) .f32 (IntOp.subi (BitVec.ofNat 32 j.val) 125#32)) = thr (j.val + 2) := by
  have hi : ∀ j : Fin 253, (IntOp.subi (BitVec.ofNat 32 j.val) 125#32).toInt = (j.val : ℤ) - 125 := by decide +kernel
  have hj := j.isLt
  rw [thr_mid (by omega) (by omega)]
  show ((Real.rpow 2 ((IntOp.subi (BitVec.ofNat 32 j.val) 125#32).toInt : ℝ) : ℝ) : EReal) = _
  rw [hi, Real.rpow_eq_pow, Real.rpow_intCast]
  congr 2
  push_cast
  ring

/-- The least of the 253 powers of two above `r`; infinity when there is none. -/
def leastAbove (r : EReal) : EReal :=
  Finset.univ.fold min ⊤ fun j : Fin 253 => if r < thr (j.val + 2) then thr (j.val + 2) else ⊤

/-- The quantiser's scale of a row whose ratio is `r`: the least power above `r`, one where `r` is below the least normal
    number or infinite. -/
def refScale (r : EReal) : EReal := if r < thr 1 ∨ r = ⊤ then 1 else leastAbove r

/-- The quantiser's inverse: one over the scale, zero where that is below the least normal number. -/
def refInverse (s : EReal) : EReal := if Ideal.div 1 s < thr 1 then 0 else Ideal.div 1 s

/-- Above field 0 and below field 255 the least power above `r` is the threshold next to `r`'s field. -/
theorem leastAbove_eq {v : EReal} {E : ℕ} (h : IsField v E) (h0 : E ≠ 0) (h1 : E ≠ 255) : leastAbove v = thr (E + 1) := by
  have hE := h.1
  unfold leastAbove
  apply le_antisymm
  · by_cases h254 : E = 254
    · subst h254; exact le_top
    · rw [Finset.fold_min_le]
      right
      refine ⟨⟨E - 1, by omega⟩, Finset.mem_univ _, ?_⟩
      dsimp only
      rw [show E - 1 + 2 = E + 1 by omega, if_pos ((h.2 (E + 1) (by omega)).mpr (by omega))]
  · rw [Finset.le_fold_min]
    refine ⟨le_top, fun j _ => ?_⟩
    have hj := j.isLt
    split
    · rename_i hlt
      exact thr_le ((h.2 _ (by omega)).mp hlt) (by omega)
    · exact le_top

/-- The quantiser's scale is the threshold above `v`'s field, one at the two special fields. -/
theorem refScale_eq {v : EReal} {E : ℕ} (h : IsField v E) : refScale v = thr (sf E) := by
  have hE := h.1
  unfold refScale sf
  have h1 : v < thr 1 ↔ E = 0 := (h.2 1 (by omega)).trans (by omega)
  have h2 : v = ⊤ ↔ E = 255 := by
    rw [← not_lt_top_iff, ← thr_inf, h.2 255 le_rfl]; omega
  simp only [h1, h2]
  split
  · exact thr_one.symm
  · exact leastAbove_eq h (by omega) (by omega)

/-- One over a threshold other than zero is the threshold at the mirrored field, once flushed below the least normal
    number. -/
theorem refInverse_thr {k : ℕ} (h0 : k ≠ 0) (hk : k ≤ 255) : refInverse (thr k) = thr (254 - k) := by
  unfold refInverse
  by_cases h255 : k = 255
  · subst h255
    have : Ideal.div 1 (thr 255) = 0 := by
      rw [thr_inf, Ideal.div, if_neg (by simp)]; simp
    rw [this, if_pos (by rw [← thr_zero]; exact thr_lt (by omega) (by omega))]
    rfl
  · have hd : Ideal.div 1 (thr k) = (((2 : ℝ) ^ (127 - (k : ℤ)) : ℝ) : EReal) := by
      have hne : thr k ≠ 0 := by
        rw [← thr_zero]; exact (thr_lt (by omega) hk).ne'
      rw [Ideal.div, if_neg hne, one_mul, thr_mid h0 h255, ← EReal.coe_inv, ← zpow_neg]
      congr 2
      ring
    rw [hd]
    have h1 : thr 1 = (((2 : ℝ) ^ (-126 : ℤ) : ℝ) : EReal) := by
      rw [thr_mid (by omega) (by omega)]; norm_num
    simp only [h1, EReal.coe_lt_coe_iff, zpow_lt_zpow_iff_right₀ (one_lt_two : (1 : ℝ) < 2)]
    by_cases h : k = 254
    · subst h; rw [if_pos (by norm_num)]; rfl
    · rw [if_neg (by omega), thr_mid (by omega) (by omega)]
      congr 2
      omega

/-- The kernel's scale is the quantiser's, at every non-negative extended real. -/
theorem kernelScale_eq_refScale {v : EReal} (hv : 0 ≤ v) : kernelScale v = refScale v := by
  obtain ⟨E, hE⟩ := exists_field hv
  rw [kernelScale_eq hE, refScale_eq hE]

/-- and its inverse is the quantiser's inverse of that scale. -/
theorem kernelInverse_eq_refInverse {v : EReal} (hv : 0 ≤ v) : kernelInverse v = refInverse (refScale v) := by
  obtain ⟨E, hE⟩ := exists_field hv
  rw [kernelInverse_eq hE, refScale_eq hE, refInverse_thr (by unfold sf; split <;> omega) (by have := sf_lt hE.1; omega)]

end Cert.Pow2
-- ==== Proof.Row.lean ====
/-
  One row of the operation, in extended reals: the two projected and rescaled halves, their gated product, the row's ratio,
  and the codes. The kernel's block and the reference's array are both read, row by row, as these functions.
-/
module

public import proofs.«01_k».proof.Proof.Pow2
public import Idealize.ShloMosaic.Lib.Pointwise.Index

@[expose] public section

noncomputable section

namespace Cert.Row

open Idealize.ShloMosaic Cert.Pow2

/-- One projected element: the row `x` against the column `w`, times the row's scale `s` and the column's scale `c`. -/
def proj (x w : Fin 4096 → EReal) (s c : EReal) : EReal := (∑ k, x k * w k) * s * c

/-- The gated product of the two halves. -/
def gated (g u : EReal) : EReal := g * Ideal.logistic g * u

/-- The row of gated products: column `n` pairs with column `n + 1024` of the projection. -/
def values (x : Fin 4096 → EReal) (s : EReal) (w : Fin 4096 → Fin 2048 → EReal) (c : Fin 2048 → EReal) (n : Fin 1024) : EReal :=
  gated (proj x (fun k => w k ⟨n.val, by omega⟩) s (c ⟨n.val, by omega⟩))
    (proj x (fun k => w k ⟨1024 + n.val, by omega⟩) s (c ⟨1024 + n.val, by omega⟩))

/-- The row's ratio: its greatest absolute value times the word nearest 1/448. -/
def ratio (y : Fin 1024 → EReal) : EReal :=
  (Finset.univ.fold max (Ideal.ofBits .f32 0xFF800000#32) fun n => max (y n) (-y n)) * Ideal.ofBits .f32 0x3B124925#32

/-- The row's scale. -/
def scale (y : Fin 1024 → EReal) : EReal := refScale (ratio y)

/-- The row's codes: each value times the inverse scale, held between -448 and 448. -/
def code (y : Fin 1024 → EReal) (n : Fin 1024) : EReal :=
  min (Ideal.ofBits .f32 0x43E00000#32) (max (Ideal.ofBits .f32 0xC3E00000#32) (y n * refInverse (scale y)))

/-- The row of gated products of row `R` of the arguments: the codes and the row scales are 3 planes of 4096 rows. -/
def argRow (a0 : (⟨3, ![3, 4096, 4096]⟩ : Shape).Idx → EReal) (a1 : (⟨3, ![3, 4096, 1]⟩ : Shape).Idx → EReal)
    (a2 : (⟨2, ![4096, 2048]⟩ : Shape).Idx → EReal) (a3 : (⟨2, ![1, 2048]⟩ : Shape).Idx → EReal) (R : Fin 12288) : Fin 1024 → EReal :=
  values (fun k => a0 (ix3 ⟨R.val / 4096, by omega⟩ ⟨R.val % 4096, by omega⟩ k))
    (a1 (ix3 ⟨R.val / 4096, by omega⟩ ⟨R.val % 4096, by omega⟩ 0)) (fun k n => a2 (ix2 k n)) (fun n => a3 (ix2 0 n))

/-- The first result: every row's codes. -/
def resultCodes (a0 : (⟨3, ![3, 4096, 4096]⟩ : Shape).Idx → EReal) (a1 : (⟨3, ![3, 4096, 1]⟩ : Shape).Idx → EReal)
    (a2 : (⟨2, ![4096, 2048]⟩ : Shape).Idx → EReal) (a3 : (⟨2, ![1, 2048]⟩ : Shape).Idx → EReal) :
    (⟨2, ![12288, 1024]⟩ : Shape).Idx → EReal :=
  fun i => code (argRow a0 a1 a2 a3 (i 0)) (i 1)

/-- The second result: every row's scale, 128 to a line, 8 lines to a block of 1024 rows. -/
def resultScales (a0 : (⟨3, ![3, 4096, 4096]⟩ : Shape).Idx → EReal) (a1 : (⟨3, ![3, 4096, 1]⟩ : Shape).Idx → EReal)
    (a2 : (⟨2, ![4096, 2048]⟩ : Shape).Idx → EReal) (a3 : (⟨2, ![1, 2048]⟩ : Shape).Idx → EReal) :
    (⟨3, ![12, 8, 128]⟩ : Shape).Idx → EReal :=
  fun i => scale (argRow a0 a1 a2 a3 ⟨(i 0).val * 1024 + (i 1).val * 128 + (i 2).val, by
    have h0 : (i 0).val < 12 := (i 0).isLt
    have h1 : (i 1).val < 8 := (i 1).isLt
    have h2 : (i 2).val < 128 := (i 2).isLt
    omega⟩)

/-- An absolute value is not negative. -/
theorem abs_nonneg (x : EReal) : 0 ≤ max x (-x) := by
  rcases le_total 0 x with h | h
  · exact le_max_of_le_left h
  · exact le_max_of_le_right (EReal.neg_nonneg.mpr h)

/-- The word of the ratio's factor is not negative. -/
theorem factor_nonneg : 0 ≤ Ideal.ofBits .f32 0x3B124925#32 := by
  show 0 ≤ Ideal.ieee 8 23 0x3B124925#32
  unfold Ideal.ieee
  rw [if_neg (by decide), if_neg (by decide)]
  refine EReal.coe_nonneg.mpr ?_
  rw [if_neg (by decide)]
  positivity

/-- A row's ratio is not negative. -/
theorem ratio_nonneg (y : Fin 1024 → EReal) : 0 ≤ ratio y := by
  refine EReal.mul_nonneg ?_ factor_nonneg
  rw [Finset.le_fold_max]
  exact Or.inr ⟨⟨0, by omega⟩, Finset.mem_univ _, abs_nonneg _⟩

/-- The kernel's scale of the row is the row's scale. -/
theorem kernelScale_ratio (y : Fin 1024 → EReal) : kernelScale (ratio y) = scale y := kernelScale_eq_refScale (ratio_nonneg y)

/-- The kernel's inverse for the row is the quantiser's inverse of the row's scale. -/
theorem kernelInverse_ratio (y : Fin 1024 → EReal) : kernelInverse (ratio y) = refInverse (scale y) :=
  kernelInverse_eq_refInverse (ratio_nonneg y)

/-- The kernel's gate, one over one plus the exponential of zero less `g`, is the logistic function of `g`. -/
theorem gate_eq (g u : EReal) : g * Ideal.div 1 (1 + Ideal.exp (0 - g)) * u = gated g u := by
  rw [zero_sub]; rfl

end Cert.Row
-- ==== Proof.KernelRow.lean ====
/-
  The kernel's pure values, read at an index: the row scales laid out as a matrix, a chunk of gated products, the scale and
  its inverse, the codes, and the scales laid back along the lanes.
-/
module

public import proofs.«01_k».proof.Proof.Gen.KernelIdeal.Value
public import proofs.«01_k».proof.Proof.Row
public import Idealize.ShloMosaic.Lib.Pointwise

@[expose] public section

noncomputable section

namespace Cert.KernelIdeal.RowValue

open Cert.KernelIdeal Cert.KernelIdeal.Gen Idealize.ShloMosaic Idealize.ShloMosaic.TcCoe Cert.Pow2

/-! ## The row scales as a matrix -/

/-- 128 scales along the lanes become the rows of a square: row `a` holds scale `a`. -/
theorem pay3_apply (v : Vec Ideal S1x1x128 .f32) (a b : Fin 128) : k0_pay3 v (ix2 a b) = v (ix3 0 0 a) := by
  pointwise [k0_pay3]

/-- Scale `k` of lane `a` is the scale of row `128 k + a`. -/
theorem pick (x : Fin 8 → Vec Ideal S1x1x128 .f32) (k : Fin 8) (a : Fin 128) (r : ℕ) (hr : r < 1024) (h : r = 128 * k.val + a.val) :
    x k (ix3 0 0 a) = x ⟨r / 128, by omega⟩ (ix3 0 0 ⟨r % 128, by omega⟩) := by
  have h1 : (⟨r / 128, by omega⟩ : Fin 8) = k := Fin.ext (by dsimp only; omega)
  have h2 : (⟨r % 128, by omega⟩ : Fin 128) = a := Fin.ext (by dsimp only; omega)
  rw [h1, h2]

/-- The eight squares stacked: the row's square, then the row in it. -/
theorem ladder (x : Fin 8 → Vec Ideal S1x1x128 .f32) (r : ℕ) (hr : r < 1024) :
    (if h0 : r < 128 then x 0 (ix3 0 0 ⟨r, by omega⟩) else
      if h1 : r - 128 < 128 then x 1 (ix3 0 0 ⟨r - 128, by omega⟩) else
      if h2 : r - 128 - 128 < 128 then x 2 (ix3 0 0 ⟨r - 128 - 128, by omega⟩) else
      if h3 : r - 128 - 128 - 128 < 128 then x 3 (ix3 0 0 ⟨r - 128 - 128 - 128, by omega⟩) else
      if h4 : r - 128 - 128 - 128 - 128 < 128 then x 4 (ix3 0 0 ⟨r - 128 - 128 - 128 - 128, by omega⟩) else
      if h5 : r - 128 - 128 - 128 - 128 - 128 < 128 then x 5 (ix3 0 0 ⟨r - 128 - 128 - 128 - 128 - 128, by omega⟩) else
      if h6 : r - 128 - 128 - 128 - 128 - 128 - 128 < 128 then x 6 (ix3 0 0 ⟨r - 128 - 128 - 128 - 128 - 128 - 128, by omega⟩) else
      x 7 (ix3 0 0 ⟨r - 128 - 128 - 128 - 128 - 128 - 128 - 128, by omega⟩)) = x ⟨r / 128, by omega⟩ (ix3 0 0 ⟨r % 128, by omega⟩) := by
  split_ifs
  · exact pick x 0 ⟨r, by omega⟩ r hr (show r = 128 * 0 + (r) by omega)
  · exact pick x 1 ⟨r - 128, by omega⟩ r hr (show r = 128 * 1 + (r - 128) by omega)
  · exact pick x 2 ⟨r - 128 - 128, by omega⟩ r hr (show r = 128 * 2 + (r - 128 - 128) by omega)
  · exact pick x 3 ⟨r - 128 - 128 - 128, by omega⟩ r hr (show r = 128 * 3 + (r - 128 - 128 - 128) by omega)
  · exact pick x 4 ⟨r - 128 - 128 - 128 - 128, by omega⟩ r hr (show r = 128 * 4 + (r - 128 - 128 - 128 - 128) by omega)
  · exact pick x 5 ⟨r - 128 - 128 - 128 - 128 - 128, by omega⟩ r hr (show r = 128 * 5 + (r - 128 - 128 - 128 - 128 - 128) by omega)
  · exact pick x 6 ⟨r - 128 - 128 - 128 - 128 - 128 - 128, by omega⟩ r hr (show r = 128 * 6 + (r - 128 - 128 - 128 - 128 - 128 - 128) by omega)
  · exact pick x 7 ⟨r - 128 - 128 - 128 - 128 - 128 - 128 - 128, by omega⟩ r hr (show r = 128 * 7 + (r - 128 - 128 - 128 - 128 - 128 - 128 - 128) by omega)

/-- The matrix of row scales: row `r` holds the scale at sublane `r / 128` and lane `r % 128`. -/
theorem pay10_apply (x : Fin 8 → Vec Ideal S1x1x128 .f32) (r : Fin 1024) (n : Fin 256) :
    k0_pay10 (k0_pay3 (x 0)) (k0_pay3 (x 1)) (k0_pay3 (x 2)) (k0_pay3 (x 3)) (k0_pay3 (x 4)) (k0_pay3 (x 5)) (k0_pay3 (x 6)) (x 7)
        (ix2 r n) = x ⟨r.val / 128, by omega⟩ (ix3 0 0 ⟨r.val % 128, by omega⟩) := by
  have hr := r.isLt
  pointwise [k0_pay10, k0_pay3]
  split
  · exact ladder x r.val hr
  · exact ladder x r.val hr

/-- The seven squares before the last are made the same way. -/
theorem squares : @k0_pay4 Ideal = k0_pay3 ∧ @k0_pay5 Ideal = k0_pay3 ∧ @k0_pay6 Ideal = k0_pay3 ∧ @k0_pay7 Ideal = k0_pay3
    ∧ @k0_pay8 Ideal = k0_pay3 ∧ @k0_pay9 Ideal = k0_pay3 := ⟨rfl, rfl, rfl, rfl, rfl, rfl⟩

/-! ## A chunk of gated products -/

/-- The chunk the payload stores at columns 256 to 511, read at an index. -/
theorem pay13_apply (m : FVec Ideal S1024x256 .f32) (x x' : Vec Ideal S1024x4096 .fp8e4m3) (wg wu : Vec Ideal S4096x256 .fp8e4m3)
    (cg cu : Vec Ideal S1x256 .f32) (r : Fin 1024) (n : Fin 256) :
    k0_pay13 m (k0_pay12 x) wg x' wu cg cu (ix2 r n)
      = Row.gated (Row.proj (fun k => x (ix2 r k)) (fun k => wg (ix2 k n)) (m (ix2 r n)) (cg (ix2 0 n)))
          (Row.proj (fun k => x' (ix2 r k)) (fun k => wu (ix2 k n)) (m (ix2 r n)) (cu (ix2 0 n))) := by
  pointwise [k0_pay13, k0_pay12]
  exact Row.gate_eq _ _

/-- The chunk the payload stores at columns 0 to 255, read at an index. -/
theorem pay11_apply (v4 v9 v14 v19 v24 v29 v34 : FVec Ideal S128x128 .f32) (v35 : Vec Ideal S1x1x128 .f32)
    (x x' : Vec Ideal S1024x4096 .fp8e4m3) (wg wu : Vec Ideal S4096x256 .fp8e4m3)
    (cg cu : Vec Ideal S1x256 .f32) (r : Fin 1024) (n : Fin 256) :
    k0_pay11 v4 v9 v14 v19 v24 v29 v34 v35 x wg x' wu cg cu (ix2 r n)
      = Row.gated (Row.proj (fun k => x (ix2 r k)) (fun k => wg (ix2 k n)) (k0_pay10 v4 v9 v14 v19 v24 v29 v34 v35 (ix2 r n)) (cg (ix2 0 n)))
          (Row.proj (fun k => x' (ix2 r k)) (fun k => wu (ix2 k n)) (k0_pay10 v4 v9 v14 v19 v24 v29 v34 v35 (ix2 r n)) (cu (ix2 0 n))) := by
  unfold k0_pay11
  generalize k0_pay10 v4 v9 v14 v19 v24 v29 v34 v35 = m
  pointwise
  exact Row.gate_eq _ _

/-- The chunk the payload stores at columns 512 to 767, read at an index. -/
theorem pay16_apply (m : FVec Ideal S1024x256 .f32) (x x' : Vec Ideal S1024x4096 .fp8e4m3) (wg wu : Vec Ideal S4096x256 .fp8e4m3)
    (cg cu : Vec Ideal S1x256 .f32) (r : Fin 1024) (n : Fin 256) :
    k0_pay16 m (k0_pay14 x wg) (k0_pay15 x') wu (constant S1024x256 .f32 0x00000000#32) cg cu (ix2 r n)
      = Row.gated (Row.proj (fun k => x (ix2 r k)) (fun k => wg (ix2 k n)) (m (ix2 r n)) (cg (ix2 0 n)))
          (Row.proj (fun k => x' (ix2 r k)) (fun k => wu (ix2 k n)) (m (ix2 r n)) (cu (ix2 0 n))) := by
  pointwise [k0_pay16, k0_pay14, k0_pay15]
  exact Row.gate_eq _ _

/-- The chunk the payload stores at columns 768 to 1023, read at an index. -/
theorem pay20_apply (m : FVec Ideal S1024x256 .f32) (x x' : Vec Ideal S1024x4096 .fp8e4m3) (wg wu : Vec Ideal S4096x256 .fp8e4m3)
    (cg cu : Vec Ideal S1x256 .f32) (r : Fin 1024) (n : Fin 256) :
    k0_pay20 (k0_pay17 m x wg cg) (k0_pay18 m x' wu) (k0_pay19 cu) (ix2 r n)
      = Row.gated (Row.proj (fun k => x (ix2 r k)) (fun k => wg (ix2 k n)) (m (ix2 r n)) (cg (ix2 0 n)))
          (Row.proj (fun k => x' (ix2 r k)) (fun k => wu (ix2 k n)) (m (ix2 r n)) (cu (ix2 0 n))) := by
  pointwise [k0_pay20, k0_pay17, k0_pay18, k0_pay19]
  exact Row.gate_eq _ _

/-! ## The scale and its inverse -/

/-- A row's maximum on every lane, read at an index. -/
theorem rowMax_apply (v : FVec Ideal S1024x1024 .f32) (r : Fin 1024) (l : Fin 128) :
    broadcastTo S1024x128 (shapeCast S1024x1 (shapeCast S1024x1 (multiReduction .maximumf [1] S1024 v 0xFF800000#32
        reduces_S1024x1024_S1024 (.inl rfl) rfl : FVec Ideal S1024 .f32) shapeCasts_S1024_S1024x1) shapeCasts_S1024x1_S1024x1)
        broadcasts_S1024x1_S1024x128 (ix2 r l)
      = Finset.univ.fold max (Ideal.ofBits .f32 0xFF800000#32) fun n : Fin 1024 => v (ix2 r n) := by
  pointwise

/-- The row's maximum is over absolute values. -/
theorem rowMax_abs (y : FVec Ideal S1024x1024 .f32) (r : Fin 1024) :
    (Finset.univ.fold max (Ideal.ofBits .f32 0xFF800000#32) fun n : Fin 1024 => absf y (ix2 r n))
      = Finset.univ.fold max (Ideal.ofBits .f32 0xFF800000#32) fun n : Fin 1024 => max (y (ix2 r n)) (-(y (ix2 r n))) := rfl

/-- The ratio's factor, read at an index. -/
theorem mulFactor_apply (m : FVec Ideal S1024x128 .f32) (i : S1024x128.Idx) :
    mulf m (broadcast S1024x128 (Scalar.ofBits .f32 0x3B124925#32)) i = m i * Ideal.ofBits .f32 0x3B124925#32 := by
  pointwise

/-- The kernel's ratio of every row, on every lane. -/
theorem pay21_apply (v : Vec Ideal S1024x1024 .f32) (r : Fin 1024) (l : Fin 128) :
    k0_pay21 v (ix2 r l) = Row.ratio fun n => v (ix2 r n) := by
  unfold Row.ratio k0_pay21
  dsimp only
  rw [mulFactor_apply, rowMax_apply, rowMax_abs]

/-- One step of the search on a whole vector of ratios. -/
def stepVec (w : FVec Ideal S1024x128 .f32) (b : IVec S1024x128 32) (s : BitVec 32) : IVec S1024x128 32 :=
  select (cmpf .olt w (bitcastToFloat .f32 (addi b (broadcast S1024x128 s)))) b (addi b (broadcast S1024x128 s))

/-- read at an index it is one step on that ratio. -/
theorem stepVec_apply (w : FVec Ideal S1024x128 .f32) (b : IVec S1024x128 32) (s : BitVec 32) (i : S1024x128.Idx) :
    stepVec w b s i = step (w i) (b i) s := rfl

/-- The scales' exponent fields from a vector of words. -/
def fieldVec (b : IVec S1024x128 32) : IVec S1024x128 32 :=
  select (ori (cmpi .eq (andi (shrsi b (broadcast S1024x128 23#32)) (broadcast S1024x128 255#32)) (broadcast S1024x128 0#32))
      (cmpi .eq (andi (shrsi b (broadcast S1024x128 23#32)) (broadcast S1024x128 255#32)) (broadcast S1024x128 255#32)))
    (broadcast S1024x128 127#32)
    (addi (andi (shrsi b (broadcast S1024x128 23#32)) (broadcast S1024x128 255#32)) (broadcast S1024x128 1#32))

/-- read at an index it is the exponent field from that word. -/
theorem fieldVec_apply (b : IVec S1024x128 32) (i : S1024x128.Idx) : fieldVec b i = scaleField (b i) := rfl

/-- A constant vector, read at an index. -/
theorem splat_apply (c : BitVec 32) (i : S1024x128.Idx) : broadcast S1024x128 c i = c := rfl

/-- The search's first four steps, in these parts. -/
theorem pay22_parts (v : Vec Ideal S1024x1024 .f32) :
    k0_pay22 v = stepVec (k0_pay21 v) (stepVec (k0_pay21 v) (stepVec (k0_pay21 v) (stepVec (k0_pay21 v)
      (broadcast S1024x128 0#32) 1073741824#32) 536870912#32) 268435456#32) 134217728#32 := by
  unfold k0_pay22
  generalize k0_pay21 v = w
  unfold stepVec
  dsimp only

/-- The search's last four steps and the scales' exponent fields, in these parts. -/
theorem pay24_parts (w : FVec Ideal S1024x128 .f32) (b : IVec S1024x128 32) :
    k0_pay24 w b (addi b (broadcast S1024x128 67108864#32))
      = fieldVec (stepVec w (stepVec w (stepVec w (stepVec w b 67108864#32) 33554432#32) 16777216#32) 8388608#32) := by
  unfold k0_pay24 fieldVec stepVec
  dsimp only

/-- The scales' exponent fields, read at an index. -/
theorem pay24_apply (v : Vec Ideal S1024x1024 .f32) (i : S1024x128.Idx) :
    k0_pay24 (k0_pay21 v) (k0_pay22 v) (k0_pay23 v) i
      = scaleField (searchTail (k0_pay21 v i) (search4 (k0_pay21 v i))) := by
  have h : k0_pay23 v = addi (k0_pay22 v) (broadcast S1024x128 67108864#32) := by
    unfold k0_pay23
    dsimp only
  rw [h, pay24_parts, fieldVec_apply, pay22_parts]
  rw [stepVec_apply, stepVec_apply, stepVec_apply, stepVec_apply, stepVec_apply, stepVec_apply, stepVec_apply, stepVec_apply,
    splat_apply]
  generalize k0_pay21 v i = w
  unfold searchTail search4
  with_reducible rfl

/-- Words from fields, read at an index. -/
theorem word_apply (b : IVec S1024x128 32) (i : S1024x128.Idx) :
    (bitcastToFloat .f32 (shli b (broadcast S1024x128 23#32)) : FVec Ideal S1024x128 .f32) i
      = FloatOps.ofBits .f32 (IntOp.shli .vector (b i) 23#32) := rfl

/-- The mirrored fields, read at an index. -/
theorem mirror_apply (b : IVec S1024x128 32) (i : S1024x128.Idx) :
    maxsi (subi (broadcast S1024x128 254#32) b) (broadcast S1024x128 0#32) i = IntOp.maxsi (IntOp.subi 254#32 (b i)) 0#32 := rfl

/-- The kernel's scale of every row, on every lane. -/
theorem scale_apply (v : Vec Ideal S1024x1024 .f32) (i : S1024x128.Idx) :
    k0_pay25 (k0_pay21 v) (k0_pay22 v) (k0_pay23 v) i = kernelScale (k0_pay21 v i) := by
  unfold k0_pay25
  rw [word_apply, pay24_apply]
  unfold kernelScale
  with_reducible rfl

/-- The kernel's inverse of every row's scale, on every lane. -/
theorem inverse_apply (v : Vec Ideal S1024x1024 .f32) (i : S1024x128.Idx) :
    k0_pay26 (k0_pay21 v) (k0_pay22 v) (k0_pay23 v) i = kernelInverse (k0_pay21 v i) := by
  unfold k0_pay26
  rw [word_apply, mirror_apply, pay24_apply]
  unfold kernelInverse
  with_reducible rfl

/-! ## The codes and the scales' table -/

/-- The code of a value under an inverse scale. -/
def clip (v inv : EReal) : EReal := min (Ideal.ofBits .f32 0x43E00000#32) (max (Ideal.ofBits .f32 0xC3E00000#32) (v * inv))

/-- Codes of columns 0 to 127, read at an index. -/
theorem pay28_apply (a v : FVec Ideal S1024x128 .f32) (d e : IVec S1024x128 32) (i : S1024x128.Idx) :
    k0_pay28 (k0_pay27 a d e v) (Scalar.ofBits .f32 0xC3E00000#32) (Scalar.ofBits .f32 0x43E00000#32) i
      = clip (v i) (k0_pay26 a d e i) := by
  unfold clip
  pointwise [k0_pay28, k0_pay27]

/-- Codes of columns 128 to 255, read at an index. -/
theorem pay29_apply (inv v : FVec Ideal S1024x128 .f32) (i : S1024x128.Idx) : k0_pay29 inv v i = clip (v i) (inv i) := by
  unfold clip
  pointwise [k0_pay29]

/-- Codes of columns 256 to 383, read at an index. -/
theorem pay30_apply (inv v : FVec Ideal S1024x128 .f32) (i : S1024x128.Idx) : k0_pay30 inv v i = clip (v i) (inv i) := by
  unfold clip
  pointwise [k0_pay30]

/-- Codes of columns 384 to 511, read at an index. -/
theorem pay31_apply (inv v : FVec Ideal S1024x128 .f32) (i : S1024x128.Idx) : k0_pay31 inv v i = clip (v i) (inv i) := by
  unfold clip
  pointwise [k0_pay31]

/-- Codes of columns 512 to 639, read at an index. -/
theorem pay33_apply (inv v : FVec Ideal S1024x128 .f32) (i : S1024x128.Idx) : k0_pay33 (k0_pay32 inv v) (Scalar.ofBits .f32 0xC3E00000#32) (Scalar.ofBits .f32 0x43E00000#32) i = clip (v i) (inv i) := by
  unfold clip
  pointwise [k0_pay33, k0_pay32]

/-- Codes of columns 640 to 767, read at an index. -/
theorem pay34_apply (inv v : FVec Ideal S1024x128 .f32) (i : S1024x128.Idx) : k0_pay34 inv v i = clip (v i) (inv i) := by
  unfold clip
  pointwise [k0_pay34]

/-- Codes of columns 768 to 895, read at an index. -/
theorem pay35_apply (inv v : FVec Ideal S1024x128 .f32) (i : S1024x128.Idx) : k0_pay35 inv v i = clip (v i) (inv i) := by
  unfold clip
  pointwise [k0_pay35]

/-- Codes of columns 896 to 1023, read at an index. -/
theorem pay36_apply (inv v : FVec Ideal S1024x128 .f32) (i : S1024x128.Idx) : k0_pay36 inv v i = clip (v i) (inv i) := by
  unfold clip
  pointwise [k0_pay36]

/-- Scales of rows 0 to 127, laid along the lanes. -/
theorem row0_apply (s : FVec Ideal S1024x128 .f32) (a b : Fin 1) (l : Fin 128) :
    k0_pay38 (k0_pay37 s) (ix3 a b l) = s (ix2 ⟨0 + l.val, by omega⟩ 0) := by
  pointwise [k0_pay38, k0_pay37]

/-- Scales of rows 128 to 255, laid along the lanes. -/
theorem row1_apply (s : FVec Ideal S1024x128 .f32) (a b : Fin 1) (l : Fin 128) :
    k0_pay39 s (ix3 a b l) = s (ix2 ⟨128 + l.val, by omega⟩ 0) := by
  pointwise [k0_pay39]

/-- Scales of rows 256 to 383, laid along the lanes. -/
theorem row2_apply (s : FVec Ideal S1024x128 .f32) (a b : Fin 1) (l : Fin 128) :
    k0_pay40 s (ix3 a b l) = s (ix2 ⟨256 + l.val, by omega⟩ 0) := by
  pointwise [k0_pay40]

/-- Scales of rows 384 to 511, laid along the lanes. -/
theorem row3_apply (s : FVec Ideal S1024x128 .f32) (a b : Fin 1) (l : Fin 128) :
    k0_pay41 s (ix3 a b l) = s (ix2 ⟨384 + l.val, by omega⟩ 0) := by
  pointwise [k0_pay41]

/-- Scales of rows 512 to 639, laid along the lanes. -/
theorem row4_apply (s : FVec Ideal S1024x128 .f32) (a b : Fin 1) (l : Fin 128) :
    k0_pay42 s (ix3 a b l) = s (ix2 ⟨512 + l.val, by omega⟩ 0) := by
  pointwise [k0_pay42]

/-- Scales of rows 640 to 767, laid along the lanes. -/
theorem row5_apply (s : FVec Ideal S1024x128 .f32) (a b : Fin 1) (l : Fin 128) :
    k0_pay43 s (ix3 a b l) = s (ix2 ⟨640 + l.val, by omega⟩ 0) := by
  pointwise [k0_pay43]

/-- Scales of rows 768 to 895, laid along the lanes. -/
theorem row6_apply (s : FVec Ideal S1024x128 .f32) (a b : Fin 1) (l : Fin 128) :
    k0_pay1 (k0_pay44 s) (ix3 a b l) = s (ix2 ⟨768 + l.val, by omega⟩ 0) := by
  pointwise [k0_pay1, k0_pay44]

/-- Scales of rows 896 to 1023, laid along the lanes. -/
theorem row7_apply (s : FVec Ideal S1024x128 .f32) (a b : Fin 1) (l : Fin 128) :
    k0_pay2 s (ix3 a b l) = s (ix2 ⟨896 + l.val, by omega⟩ 0) := by
  pointwise [k0_pay2]

end Cert.KernelIdeal.RowValue
-- ==== Proof.KernelBlock.lean ====
/-
  What one block of the kernel computes: the scratch array holds the block's gated products, and the two result blocks hold
  the rows' codes and the rows' scales.
-/
module

public import proofs.«01_k».proof.Proof.KernelRow

@[expose] public section

noncomputable section

namespace Cert.KernelIdeal.RowValue

open Cert.KernelIdeal Cert.KernelIdeal.Gen Idealize.ShloMosaic Idealize.ShloMosaic.TcCoe Cert.Pow2

/-- The row of gated products of row `r` of a block. -/
abbrev blockRow (x0 : Vec Ideal S1024x4096 .fp8e4m3) (x1 : Vec Ideal S1x8x128 .f32) (x2 : Vec Ideal S4096x2048 .fp8e4m3)
    (x3 : Vec Ideal S1x2048 .f32) (r : Fin 1024) : Fin 1024 → EReal :=
  Row.values (fun k => x0 (ix2 r k)) (x1 (ix3 0 ⟨r.val / 128, by omega⟩ ⟨r.val % 128, by omega⟩)) (fun k n => x2 (ix2 k n))
    (fun n => x3 (ix2 0 n))

/-- The block's gated products as an array. -/
def products (x0 : Vec Ideal S1024x4096 .fp8e4m3) (x1 : Vec Ideal S1x8x128 .f32) (x2 : Vec Ideal S4096x2048 .fp8e4m3)
    (x3 : Vec Ideal S1x2048 .f32) : Vec Ideal S1024x1024 .f32 :=
  fun i => blockRow x0 x1 x2 x3 (i 0) (i 1)

/-- Offset zero on both axes of an array. -/
theorem zeros : (![0, 0] : Fin 2 → Nat) = fun _ => 0 := funext fun a => by fin_cases a <;> rfl

/-- A chunk of weight columns, read at an index. -/
theorem weight_at (x2 : Vec Ideal S4096x2048 .fp8e4m3) (o : ℕ) (h : ∀ a, (![0, o] : Fin 2 → Nat) a + S4096x256.size a ≤ S4096x2048.size a)
    (ho : o + 256 ≤ 2048) (k : Fin 4096) (n : Fin 256) :
    (View.ld x2 (Rect.unit (s := S4096x2048) ![0, o] S4096x256.size h) : Vec Ideal S4096x256 .fp8e4m3) (ix2 k n)
      = x2 (ix2 k ⟨o + n.val, by omega⟩) := by
  pointwise

/-- A chunk of column scales, read at an index. -/
theorem colScale_at (x3 : Vec Ideal S1x2048 .f32) (o : ℕ) (h : ∀ a, (![0, o] : Fin 2 → Nat) a + S1x256.size a ≤ S1x2048.size a)
    (ho : o + 256 ≤ 2048) (n : Fin 256) :
    (View.ld x3 (Rect.unit (s := S1x2048) ![0, o] S1x256.size h) : Vec Ideal S1x256 .f32) (ix2 0 n)
      = x3 (ix2 0 ⟨o + n.val, by omega⟩) := by
  pointwise

/-- A row of row scales, read at a lane. -/
theorem rowScale_at (x1 : Vec Ideal S1x8x128 .f32) (o : Fin 8) (h : ∀ a, (![0, o.val, 0] : Fin 3 → Nat) a + S1x1x128.size a ≤ S1x8x128.size a)
    (l : Fin 128) :
    (View.ld x1 (Rect.unit (s := S1x8x128) ![0, o.val, 0] S1x1x128.size h) : Vec Ideal S1x1x128 .f32) (ix3 0 0 l)
      = x1 (ix3 0 o l) := by
  pointwise

/-- A row of the products. -/
theorem products_row (x0 : Vec Ideal S1024x4096 .fp8e4m3) (x1 : Vec Ideal S1x8x128 .f32) (x2 : Vec Ideal S4096x2048 .fp8e4m3)
    (x3 : Vec Ideal S1x2048 .f32) (r : Fin 1024) :
    (fun n : Fin 1024 => products x0 x1 x2 x3 (ix2 r n)) = blockRow x0 x1 x2 x3 r := rfl

/-- The products at a chunk's place in the scratch array. -/
theorem products_at (x0 : Vec Ideal S1024x4096 .fp8e4m3) (x1 : Vec Ideal S1x8x128 .f32) (x2 : Vec Ideal S4096x2048 .fp8e4m3)
    (x3 : Vec Ideal S1x2048 .f32) (o : ℕ) (h : ∀ a, (![0, o] : Fin 2 → Nat) a + S1024x256.size a ≤ S1024x1024.size a)
    (ho : o + 256 ≤ 1024) (r : Fin 1024) (n : Fin 256) :
    products x0 x1 x2 x3 ((Rect.unit (s := S1024x1024) ![0, o] S1024x256.size h).emb (ix2 r n : S1024x256.Idx))
      = blockRow x0 x1 x2 x3 r ⟨o + n.val, by omega⟩ := by
  have h0 : (Rect.unit (s := S1024x1024) ![0, o] S1024x256.size h).emb (ix2 r n : S1024x256.Idx) = (ix2 r ⟨o + n.val, by omega⟩ : S1024x1024.Idx) := by
    funext a; fin_cases a <;> apply Fin.ext
    · show 0 + 1 * r.val = r.val; omega
    · show o + 1 * n.val = o + n.val; omega
  rw [h0]
  rfl

/-- A chunk of gated products is the row's products at the chunk's columns. -/
theorem chunk_eq (x0 : Vec Ideal S1024x4096 .fp8e4m3) (x1 : Vec Ideal S1x8x128 .f32) (x2 : Vec Ideal S4096x2048 .fp8e4m3)
    (x3 : Vec Ideal S1x2048 .f32) (o o' : ℕ) (ho : o + 256 ≤ 1024) (ho' : o' = 1024 + o)
    (hg : ∀ a, (![0, o] : Fin 2 → Nat) a + S4096x256.size a ≤ S4096x2048.size a)
    (hu : ∀ a, (![0, o'] : Fin 2 → Nat) a + S4096x256.size a ≤ S4096x2048.size a)
    (kg : ∀ a, (![0, o] : Fin 2 → Nat) a + S1x256.size a ≤ S1x2048.size a)
    (ku : ∀ a, (![0, o'] : Fin 2 → Nat) a + S1x256.size a ≤ S1x2048.size a)
    (r : Fin 1024) (n : Fin 256) (m : EReal) (hm : m = x1 (ix3 0 ⟨r.val / 128, by omega⟩ ⟨r.val % 128, by omega⟩)) :
    Row.gated
        (Row.proj (fun k => x0 (ix2 r k))
          (fun k => (View.ld x2 (Rect.unit (s := S4096x2048) ![0, o] S4096x256.size hg) : Vec Ideal S4096x256 .fp8e4m3) (ix2 k n)) m
          ((View.ld x3 (Rect.unit (s := S1x2048) ![0, o] S1x256.size kg) : Vec Ideal S1x256 .f32) (ix2 0 n)))
        (Row.proj (fun k => x0 (ix2 r k))
          (fun k => (View.ld x2 (Rect.unit (s := S4096x2048) ![0, o'] S4096x256.size hu) : Vec Ideal S4096x256 .fp8e4m3) (ix2 k n)) m
          ((View.ld x3 (Rect.unit (s := S1x2048) ![0, o'] S1x256.size ku) : Vec Ideal S1x256 .f32) (ix2 0 n)))
      = blockRow x0 x1 x2 x3 r ⟨o + n.val, by omega⟩ := by
  subst ho' hm
  have w1 := funext fun k => weight_at x2 o hg (by omega) k n
  have w2 := funext fun k => weight_at x2 (1024 + o) hu (by omega) k n
  rw [w1, w2, colScale_at x3 o kg (by omega) n, colScale_at x3 (1024 + o) ku (by omega) n]
  unfold blockRow Row.values
  have h1 : (⟨1024 + o + n.val, by omega⟩ : Fin 2048) = ⟨1024 + (o + n.val), by omega⟩ := Fin.ext (Nat.add_assoc ..)
  simp only [h1]

/-- The eight rows of row scales. -/
def scaleRows (x1 : Vec Ideal S1x8x128 .f32) (k : Fin 8) : Vec Ideal S1x1x128 .f32 := fun i => x1 (ix3 0 k (i 2))

/-- Reading one row of the row scales. -/
theorem ld_scaleRow (x1 : Vec Ideal S1x8x128 .f32) (k : Fin 8) (o : ℕ) (hk : o = k.val)
    (h : ∀ a, (![0, o, 0] : Fin 3 → Nat) a + S1x1x128.size a ≤ S1x8x128.size a) :
    (View.ld x1 (Rect.unit (s := S1x8x128) ![0, o, 0] S1x1x128.size h) : Vec Ideal S1x1x128 .f32) = scaleRows x1 k := by
  subst hk
  funext i
  obtain ⟨a, b, l, rfl⟩ : ∃ (a b : Fin 1) (l : Fin 128), i = ix3 a b l := ⟨i 0, i 1, i 2, by funext d; fin_cases d <;> rfl⟩
  obtain rfl : a = 0 := Subsingleton.elim _ _
  obtain rfl : b = 0 := Subsingleton.elim _ _
  rw [rowScale_at]
  rfl

section Run

variable (c : Dev nD) (arg1 : Memref sig .tc .vmem S1024x4096 .fp8e4m3) (harg1 : arg1.IsWhole)
  (arg2 : Memref sig .tc .vmem S1x8x128 .f32) (harg2 : arg2.IsWhole) (arg3 : Memref sig .tc .vmem S4096x2048 .fp8e4m3)
  (harg3 : arg3.IsWhole) (arg4 : Memref sig .tc .vmem S1x2048 .f32) (harg4 : arg4.IsWhole)
  (arg7 : Memref sig .tc .vmem S1024x1024 .f32)
  (x0 : Vec Ideal S1024x4096 .fp8e4m3) (x1 : Vec Ideal S1x8x128 .f32) (x2 : Vec Ideal S4096x2048 .fp8e4m3)
  (x3 : Vec Ideal S1x2048 .f32)

/-- The matrix of row scales the run computes, read at a row. -/
theorem mat_apply (r : Fin 1024) (n : Fin 256) :
    kernelRun0_A.sl.r_7 c arg2 harg2 x1 (ix2 r n) = x1 (ix3 0 ⟨r.val / 128, by omega⟩ ⟨r.val % 128, by omega⟩) := by
  unfold kernelRun0_A.sl.r_7 kernelRun0_A.sl.r kernelRun0_A.sl.r_1 kernelRun0_A.sl.r_2 kernelRun0_A.sl.r_3 kernelRun0_A.sl.r_4
    kernelRun0_A.sl.r_5 kernelRun0_A.sl.r_6
  simp only [View.readAt_eq_ld, harg2.read_unread]
  rw [ld_scaleRow x1 0 0 rfl, ld_scaleRow x1 1 1 rfl, ld_scaleRow x1 2 2 rfl, ld_scaleRow x1 3 3 rfl, ld_scaleRow x1 4 4 rfl,
    ld_scaleRow x1 5 5 rfl, ld_scaleRow x1 6 6 rfl, ld_scaleRow x1 7 7 rfl]
  obtain ⟨-, -, -, -, -, -⟩ := squares
  rw [squares.1, squares.2.1, squares.2.2.1, squares.2.2.2.1, squares.2.2.2.2.1, squares.2.2.2.2.2]
  rw [pay10_apply (scaleRows x1)]
  rfl

/-- The run's four stores into the scratch array are the block's products at the stores' places. -/
theorem scratch_pieces : ∀ p ∈ kernelRun0_A.sl.HS0_4 c arg1 harg1 arg2 harg2 arg3 harg3 arg4 harg4 x0 x1 x2 x3,
    ∀ x : p.1.shape.Idx, p.2 x = products x0 x1 x2 x3 (p.1.emb x) := by
  have hm := mat_apply c arg2 harg2 x1
  unfold kernelRun0_A.sl.HS0_4
  simp only [List.forall_mem_cons, List.not_mem_nil, false_imp_iff, implies_true, and_true]
  refine ⟨?_, ?_, ?_, ?_⟩
  all_goals
    intro x
    obtain ⟨r, n, rfl⟩ : ∃ (r : Fin 1024) (n : Fin 256), x = (ix2 r n : S1024x256.Idx) := ⟨x 0, x 1, by funext d; fin_cases d <;> rfl⟩
  · refine Eq.trans ?_ (products_at x0 x1 x2 x3 768 _ (by omega) r n).symm
    unfold kernelRun0_A.sl.r_12 kernelRun0_A.sl.r_13 kernelRun0_A.sl.r_14
    simp only [View.readAt_eq_ld, harg1.read_unread, harg3.read_unread, harg4.read_unread, View.ld_unit_zero (S := S1024x4096) zeros]
    rw [pay20_apply]
    exact chunk_eq x0 x1 x2 x3 768 1792 (by omega) rfl _ _ _ _ r n _ (hm r n)
  · refine Eq.trans ?_ (products_at x0 x1 x2 x3 512 _ (by omega) r n).symm
    unfold kernelRun0_A.sl.r_9 kernelRun0_A.sl.r_10 kernelRun0_A.sl.r_11 kernelRun0_A.sl.cst_57
    simp only [View.readAt_eq_ld, harg1.read_unread, harg3.read_unread, harg4.read_unread, View.ld_unit_zero (S := S1024x4096) zeros]
    rw [pay16_apply]
    exact chunk_eq x0 x1 x2 x3 512 1536 (by omega) rfl _ _ _ _ r n _ (hm r n)
  · refine Eq.trans ?_ (products_at x0 x1 x2 x3 256 _ (by omega) r n).symm
    unfold kernelRun0_A.sl.r_8
    simp only [View.readAt_eq_ld, harg1.read_unread, harg3.read_unread, harg4.read_unread, View.ld_unit_zero (S := S1024x4096) zeros]
    rw [pay13_apply]
    exact chunk_eq x0 x1 x2 x3 256 1280 (by omega) rfl _ _ _ _ r n _ (hm r n)
  · refine Eq.trans ?_ (products_at x0 x1 x2 x3 0 _ (by omega) r n).symm
    unfold kernelRun0_A.sl.r_7 at hm
    have hm := hm r n
    simp only [View.readAt_eq_ld, harg1.read_unread, harg3.read_unread, harg4.read_unread, View.ld_unit_zero (S := S1024x4096) zeros] at hm ⊢
    rw [pay11_apply]
    exact chunk_eq x0 x1 x2 x3 0 1024 (by omega) rfl _ _ _ _ r n _ hm

/-- The scratch array after the four stores is the block's products. -/
theorem scratch_eq : View.canon (kernelRun0_A.sl.HS0_4 c arg1 harg1 arg2 harg2 arg3 harg3 arg4 harg4 x0 x1 x2 x3)
    = products x0 x1 x2 x3 :=
  funext fun y => View.canon_apply_of_pieces _ _ (scratch_pieces c arg1 harg1 arg2 harg2 arg3 harg3 arg4 harg4 x0 x1 x2 x3) y
    (View.cover_of_tiledL (kernelRun0_A.sl.HS0_4 c arg1 harg1 arg2 harg2 arg3 harg3 arg4 harg4 x0 x1 x2 x3) S1024x256.size
      (by sl_kernel_rfl) y)

/-- The ratios are taken of the whole scratch array. -/
theorem whole_eq : kernelRun0_A.sl.v154 c arg1 harg1 arg2 harg2 arg3 harg3 arg4 harg4 arg7 x0 x1 x2 x3 = products x0 x1 x2 x3 := by
  unfold kernelRun0_A.sl.v154
  rw [View.readCov_eq_canon', scratch_eq]
  exact View.ld_unit_zero (S := S1024x1024) zeros _ _

/-- The scales the run computes, on every lane of a row: the row's scale. -/
theorem runScale_apply (r : Fin 1024) (l : Fin 128) :
    kernelRun0_A.sl.r_18 c arg1 harg1 arg2 harg2 arg3 harg3 arg4 harg4 arg7 x0 x1 x2 x3 (ix2 r l) = Row.scale (blockRow x0 x1 x2 x3 r) := by
  unfold kernelRun0_A.sl.r_18 kernelRun0_A.sl.r_15 kernelRun0_A.sl.r_16 kernelRun0_A.sl.r_17
  rw [whole_eq, scale_apply, pay21_apply, Row.kernelScale_ratio, products_row]

/-- The inverses the run computes, on every lane of a row: the quantiser's inverse of the row's scale. -/
theorem runInverse_apply (r : Fin 1024) (l : Fin 128) :
    kernelRun0_A.sl.r_19 c arg1 harg1 arg2 harg2 arg3 harg3 arg4 harg4 arg7 x0 x1 x2 x3 (ix2 r l) = refInverse (Row.scale (blockRow x0 x1 x2 x3 r)) := by
  unfold kernelRun0_A.sl.r_19 kernelRun0_A.sl.r_15 kernelRun0_A.sl.r_16 kernelRun0_A.sl.r_17
  rw [whole_eq, inverse_apply, pay21_apply, Row.kernelInverse_ratio, products_row]

/-- Any 128 columns of the scratch array, read at an index. -/
theorem columns_apply (o : ℕ) (h : ∀ a, (![0, o] : Fin 2 → Nat) a + S1024x128.size a ≤ S1024x1024.size a) (ho : o + 128 ≤ 1024)
    (r : Fin 1024) (n : Fin 128) :
    (arg7.view.readCov (kernelRun0_A.sl.HS0_4 c arg1 harg1 arg2 harg2 arg3 harg3 arg4 harg4 x0 x1 x2 x3)
        (Rect.unit (s := S1024x1024) ![0, o] S1024x128.size h).toLoadRect : Vec Ideal S1024x128 .f32) (ix2 r n)
      = blockRow x0 x1 x2 x3 r ⟨o + n.val, by omega⟩ := by
  rw [View.readCov_eq_canon', scratch_eq]
  generalize hg : products x0 x1 x2 x3 = g
  have : (View.ld g (Rect.unit (s := S1024x1024) ![0, o] S1024x128.size h) : Vec Ideal S1024x128 .f32) (ix2 r n)
      = g (ix2 r ⟨o + n.val, by omega⟩) := by pointwise
  refine this.trans ?_
  rw [← hg]
  rfl

/-- The block's codes as an array. -/
def codes : Vec Ideal S1024x1024 .fp8e4m3 := fun i => Row.code (blockRow x0 x1 x2 x3 (i 0)) (i 1)

/-- The block's scales as an array: row `128 b + l` at sublane `b` and lane `l`. -/
def scales : Vec Ideal S1x8x128 .f32 :=
  fun i => Row.scale (blockRow x0 x1 x2 x3 ⟨128 * (i 1).val + (i 2).val, by
    have h1 : (i 1).val < 8 := (i 1).isLt
    have h2 : (i 2).val < 128 := (i 2).isLt
    omega⟩)

/-- The codes at the place of 128 columns. -/
theorem codes_at (o : ℕ) (h : ∀ a, (![0, o] : Fin 2 → Nat) a + S1024x128.size a ≤ S1024x1024.size a)
    (ho : o + 128 ≤ 1024) (r : Fin 1024) (n : Fin 128) :
    codes x0 x1 x2 x3 ((Rect.unit (s := S1024x1024) ![0, o] S1024x128.size h).emb (ix2 r n : S1024x128.Idx))
      = clip (blockRow x0 x1 x2 x3 r ⟨o + n.val, by omega⟩) (refInverse (Row.scale (blockRow x0 x1 x2 x3 r))) := by
  have h0 : (Rect.unit (s := S1024x1024) ![0, o] S1024x128.size h).emb (ix2 r n : S1024x128.Idx) = (ix2 r ⟨o + n.val, by omega⟩ : S1024x1024.Idx) := by
    funext a; fin_cases a <;> apply Fin.ext
    · show 0 + 1 * r.val = r.val; omega
    · show o + 1 * n.val = o + n.val; omega
  rw [h0]
  rfl

/-- The scales at the place of one row of lanes. -/
theorem scales_at (b : ℕ) (o : ℕ) (hb : b < 8) (ho : o = 128 * b)
    (h : ∀ a, (![0, b, 0] : Fin 3 → Nat) a + S1x1x128.size a ≤ S1x8x128.size a) (l : Fin 128) :
    scales x0 x1 x2 x3 ((Rect.unit (s := S1x8x128) ![0, b, 0] S1x1x128.size h).emb (ix3 0 0 l : S1x1x128.Idx))
      = Row.scale (blockRow x0 x1 x2 x3 ⟨o + l.val, by omega⟩) := by
  subst ho
  have h0 : (Rect.unit (s := S1x8x128) ![0, b, 0] S1x1x128.size h).emb (ix3 0 0 l : S1x1x128.Idx) = (ix3 0 ⟨b, hb⟩ l : S1x8x128.Idx) := by
    funext a; fin_cases a <;> apply Fin.ext
    · rfl
    · show b + 1 * 0 = b; omega
    · show 0 + 1 * l.val = l.val; omega
  rw [h0]
  rfl

variable (i : grid0.Coords) (arg5 : Memref sig .tc .vmem S1024x1024 .fp8e4m3) (harg5 : arg5.IsWhole)
  (arg6 : Memref sig .tc .vmem S1x8x128 .f32) (harg6 : arg6.IsWhole) (harg7 : arg7.IsWhole)

/-- The first result's block: the rows' codes. -/
theorem out4_eq : out0_A_4 c i arg1 harg1 arg2 harg2 arg3 harg3 arg4 harg4 arg5 harg5 arg6 harg6 arg7 harg7 x0 x1 x2 x3
    = codes x0 x1 x2 x3 := by
  have hcol := columns_apply c arg1 harg1 arg2 harg2 arg3 harg3 arg4 harg4 arg7 x0 x1 x2 x3
  have hinv := runInverse_apply c arg1 harg1 arg2 harg2 arg3 harg3 arg4 harg4 arg7 x0 x1 x2 x3
  unfold out0_A_4
  rw [View.read_writes_junk_eq_canon]
  refine funext fun y => View.canon_apply_of_pieces _ _ ?_ y
    (cover0_A_4 c i arg1 harg1 arg2 harg2 arg3 harg3 arg4 harg4 arg5 harg5 arg6 harg6 arg7 harg7 x0 x1 x2 x3 y)
  unfold kernelRun0_A
  dsimp only
  simp only [List.forall_mem_cons, List.not_mem_nil, false_imp_iff, implies_true, and_true]
  refine ⟨?_, ?_, ?_, ?_, ?_, ?_, ?_, ?_⟩
  all_goals
    intro x
    obtain ⟨r, n, rfl⟩ : ∃ (r : Fin 1024) (n : Fin 128), x = (ix2 r n : S1024x128.Idx) := ⟨x 0, x 1, by funext d; fin_cases d <;> rfl⟩
  · refine Eq.trans ?_ (codes_at x0 x1 x2 x3 896 _ (by omega) r n).symm
    rw [pay36_apply, hinv]
    exact congrArg (clip · _) (hcol 896 _ (by omega) r n)
  · refine Eq.trans ?_ (codes_at x0 x1 x2 x3 768 _ (by omega) r n).symm
    rw [pay35_apply, hinv]
    exact congrArg (clip · _) (hcol 768 _ (by omega) r n)
  · refine Eq.trans ?_ (codes_at x0 x1 x2 x3 640 _ (by omega) r n).symm
    rw [pay34_apply, hinv]
    exact congrArg (clip · _) (hcol 640 _ (by omega) r n)
  · refine Eq.trans ?_ (codes_at x0 x1 x2 x3 512 _ (by omega) r n).symm
    unfold kernelRun0_A.sl.r_21 kernelRun0_A.sl.cst_95 kernelRun0_A.sl.cst_96
    rw [pay33_apply, hinv]
    exact congrArg (clip · _) (hcol 512 _ (by omega) r n)
  · refine Eq.trans ?_ (codes_at x0 x1 x2 x3 384 _ (by omega) r n).symm
    rw [pay31_apply, hinv]
    exact congrArg (clip · _) (hcol 384 _ (by omega) r n)
  · refine Eq.trans ?_ (codes_at x0 x1 x2 x3 256 _ (by omega) r n).symm
    rw [pay30_apply, hinv]
    exact congrArg (clip · _) (hcol 256 _ (by omega) r n)
  · refine Eq.trans ?_ (codes_at x0 x1 x2 x3 128 _ (by omega) r n).symm
    rw [pay29_apply, hinv]
    exact congrArg (clip · _) (hcol 128 _ (by omega) r n)
  · refine Eq.trans ?_ (codes_at x0 x1 x2 x3 0 _ (by omega) r n).symm
    unfold kernelRun0_A.sl.r_20 kernelRun0_A.sl.cst_95 kernelRun0_A.sl.cst_96
    unfold kernelRun0_A.sl.r_19 at hinv
    rw [pay28_apply, hinv]
    exact congrArg (clip · _) (hcol 0 _ (by omega) r n)

/-- The second result's block: the rows' scales. -/
theorem out5_eq : out0_A_5 c i arg1 harg1 arg2 harg2 arg3 harg3 arg4 harg4 arg5 harg5 arg6 harg6 arg7 harg7 x0 x1 x2 x3
    = scales x0 x1 x2 x3 := by
  have hs := runScale_apply c arg1 harg1 arg2 harg2 arg3 harg3 arg4 harg4 arg7 x0 x1 x2 x3
  unfold out0_A_5
  rw [View.read_writes_junk_eq_canon]
  refine funext fun y => View.canon_apply_of_pieces _ _ ?_ y
    (cover0_A_5 c i arg1 harg1 arg2 harg2 arg3 harg3 arg4 harg4 arg5 harg5 arg6 harg6 arg7 harg7 x0 x1 x2 x3 y)
  unfold kernelRun0_A
  dsimp only
  simp only [List.forall_mem_cons, List.not_mem_nil, false_imp_iff, implies_true, and_true]
  refine ⟨?_, ?_, ?_, ?_, ?_, ?_, ?_, ?_⟩
  all_goals
    intro x
    obtain ⟨a, b, l, rfl⟩ : ∃ (a b : Fin 1) (l : Fin 128), x = (ix3 a b l : S1x1x128.Idx) := ⟨x 0, x 1, x 2, by funext d; fin_cases d <;> rfl⟩
    obtain rfl : a = 0 := Subsingleton.elim _ _
    obtain rfl : b = 0 := Subsingleton.elim _ _
  · refine Eq.trans ?_ (scales_at x0 x1 x2 x3 7 896 (by omega) rfl _ l).symm
    rw [row7_apply, hs]
  · refine Eq.trans ?_ (scales_at x0 x1 x2 x3 6 768 (by omega) rfl _ l).symm
    unfold kernelRun0_A.sl.r_23
    rw [row6_apply, hs]
  · refine Eq.trans ?_ (scales_at x0 x1 x2 x3 5 640 (by omega) rfl _ l).symm
    rw [row5_apply, hs]
  · refine Eq.trans ?_ (scales_at x0 x1 x2 x3 4 512 (by omega) rfl _ l).symm
    rw [row4_apply, hs]
  · refine Eq.trans ?_ (scales_at x0 x1 x2 x3 3 384 (by omega) rfl _ l).symm
    rw [row3_apply, hs]
  · refine Eq.trans ?_ (scales_at x0 x1 x2 x3 2 256 (by omega) rfl _ l).symm
    rw [row2_apply, hs]
  · refine Eq.trans ?_ (scales_at x0 x1 x2 x3 1 128 (by omega) rfl _ l).symm
    rw [row1_apply, hs]
  · refine Eq.trans ?_ (scales_at x0 x1 x2 x3 0 0 (by omega) rfl _ l).symm
    unfold kernelRun0_A.sl.r_22
    rw [row0_apply, hs]

end Run

end Cert.KernelIdeal.RowValue
-- ==== Proof.KernelArray.lean ====
/-
  What the kernel's result arrays hold after the run: every row's codes and every row's scale, of the arguments as launched.
-/
module

public import proofs.«01_k».proof.Proof.KernelBlock
public import Idealize.ShloMosaic.Lib.Claim

@[expose] public section

noncomputable section

namespace Cert.KernelIdeal.RowValue

open Cert.KernelIdeal Cert.KernelIdeal.Gen Idealize.ShloMosaic Idealize.ShloMosaic.TcCoe Cert.Pow2 Idealize.SL.Sem

variable (m : (ℓ : Loc nD τ sig) → Buf (Elt Ideal) ℓ) (c : Dev nD)

/-- The codes as launched. -/
abbrev arg0 : Vec Ideal S3x4096x4096 .fp8e4m3 := m ((c : Thread nD τ).loc main_arg0)
/-- The row scales as launched. -/
abbrev arg1 : Vec Ideal S3x4096x1 .f32 := m ((c : Thread nD τ).loc main_arg1)
/-- The weights as launched. -/
abbrev arg2 : Vec Ideal S4096x2048 .fp8e4m3 := m ((c : Thread nD τ).loc main_arg2)
/-- The column scales as launched. -/
abbrev arg3 : Vec Ideal S1x2048 .f32 := m ((c : Thread nD τ).loc main_arg3)

/-- The codes as the kernel is given them, read at an index. -/
theorem entry0_apply (R : Fin 12288) (k : Fin 4096) :
    (V m c (Pipeline.arrRef spec0 0) : Vec Ideal S12288x4096 .fp8e4m3) (ix2 R k)
      = arg0 m c (ix3 ⟨R.val / 4096, by omega⟩ ⟨R.val % 4096, by omega⟩ k) := by
  show (V m c main_v0 : Vec Ideal S12288x4096 .fp8e4m3) (ix2 R k) = _
  entry_read
  pointwise

/-- The row scales as the kernel is given them, read at an index. -/
theorem entry1_apply (t : Fin 12) (b : Fin 8) (l : Fin 128) :
    (V m c (Pipeline.arrRef spec0 1) : Vec Ideal S12x8x128 .f32) (ix3 t b l)
      = arg1 m c (ix3 ⟨(t.val * 1024 + b.val * 128 + l.val) / 4096, by omega⟩ ⟨(t.val * 1024 + b.val * 128 + l.val) % 4096, by omega⟩ 0) := by
  show (V m c main_v1 : Vec Ideal S12x8x128 .f32) (ix3 t b l) = _
  entry_read
  have ht := t.isLt
  have hb := b.isLt
  have hl := l.isLt
  have h1 : (⟨t.val / 4, by omega⟩ : Fin 3) = ⟨(t.val * 1024 + b.val * 128 + l.val) / 4096, by omega⟩ := Fin.ext (by dsimp only; omega)
  have h2 : (⟨t.val % 4 * 1024 + b.val * 128 + l.val, by omega⟩ : Fin 4096) = ⟨(t.val * 1024 + b.val * 128 + l.val) % 4096, by omega⟩ :=
    Fin.ext (by dsimp only; omega)
  rw [← h1, ← h2]
  pointwise

/-- Block `t` of the windows that move, and block zero of those that do not. -/
theorem index_eq (t : Fin cfg0.N) :
    (win0_0.index t 0 = t.val ∧ win0_0.index t 1 = 0)
    ∧ (win0_1.index t 0 = t.val ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0 ∧ win0_5.index t 2 = 0) :=
  (by decide +kernel : ∀ t : Fin grid0.N,
    (win0_0.index t 0 = t.val ∧ win0_0.index t 1 = 0)
    ∧ (win0_1.index t 0 = t.val ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0 ∧ win0_5.index t 2 = 0)) t

/-- There are twelve points. -/
theorem point_lt (t : Fin cfg0.N) : t.val < 12 := by have h : cfg0.N = 12 := N_0; have := t.isLt; omega

/-- Row `r` of the codes' block at point `t` is row `1024 t + r` of the codes. -/
theorem block0_apply (t : Fin cfg0.N) (r : Fin 1024) (k : Fin 4096) :
    (iblk m c 0 t : Vec Ideal S1024x4096 .fp8e4m3) (ix2 r k)
      = (V m c (Pipeline.arrRef spec0 0) : Vec Ideal S12288x4096 .fp8e4m3)
          (ix2 ⟨t.val * 1024 + r.val, by have := point_lt t; omega⟩ k) := by
  have hi := (index_eq t).1
  have ht := point_lt t
  have hj : ((cfg0.win 0).blk t).view.emb (ix2 r k : S1024x4096.Idx) = (ix2 ⟨t.val * 1024 + r.val, by omega⟩ k : S12288x4096.Idx) := by
    funext a
    apply Fin.ext
    match a with
    | ⟨0, _⟩ => show win0_0.index t 0 * 1024 + 1 * r.val = t.val * 1024 + r.val; rw [hi.1]; omega
    | ⟨1, _⟩ => show win0_0.index t 1 * 4096 + 1 * k.val = k.val; rw [hi.2]; omega
  unfold iblk
  generalize V m c (Pipeline.arrRef spec0 0) = X
  rw [View.read_apply]
  exact congrArg X hj

/-- The row scales' block at point `t` is slab `t` of the row scales. -/
theorem block1_apply (t : Fin cfg0.N) (b : Fin 8) (l : Fin 128) :
    (iblk m c 1 t : Vec Ideal S1x8x128 .f32) (ix3 0 b l)
      = (V m c (Pipeline.arrRef spec0 1) : Vec Ideal S12x8x128 .f32) (ix3 ⟨t.val, point_lt t⟩ b l) := by
  have hi := (index_eq t).2.1
  have hj : ((cfg0.win 1).blk t).view.emb (ix3 0 b l : S1x8x128.Idx) = (ix3 ⟨t.val, point_lt t⟩ b l : S12x8x128.Idx) := by
    funext a
    apply Fin.ext
    match a with
    | ⟨0, _⟩ => show win0_1.index t 0 * 1 + 1 * 0 = t.val; rw [hi.1]; omega
    | ⟨1, _⟩ => show win0_1.index t 1 * 8 + 1 * b.val = b.val; rw [hi.2.1]; omega
    | ⟨2, _⟩ => show win0_1.index t 2 * 128 + 1 * l.val = l.val; rw [hi.2.2]; omega
  unfold iblk
  generalize V m c (Pipeline.arrRef spec0 1) = X
  rw [View.read_apply]
  exact congrArg X hj

/-- The weights' block is the weights. -/
theorem block2_apply (t : Fin cfg0.N) (k : Fin 4096) (n : Fin 2048) :
    (iblk m c 2 t : Vec Ideal S4096x2048 .fp8e4m3) (ix2 k n) = arg2 m c (ix2 k n) := by
  have hi := (index_eq t).2.2.1
  unfold iblk
  rw [View.read_apply]
  show (V m c main_arg2 : Vec Ideal S4096x2048 .fp8e4m3) _ = _
  rw [V_main_arg2]
  congr 1
  funext a
  apply Fin.ext
  match a with
  | ⟨0, _⟩ => show win0_2.index t 0 * 4096 + 1 * k.val = k.val; rw [hi.1]; omega
  | ⟨1, _⟩ => show win0_2.index t 1 * 2048 + 1 * n.val = n.val; rw [hi.2]; omega

/-- The column scales' block is the column scales. -/
theorem block3_apply (t : Fin cfg0.N) (n : Fin 2048) :
    (iblk m c 3 t : Vec Ideal S1x2048 .f32) (ix2 0 n) = arg3 m c (ix2 0 n) := by
  have hi := (index_eq t).2.2.2.1
  unfold iblk
  rw [View.read_apply]
  show (V m c main_arg3 : Vec Ideal S1x2048 .f32) _ = _
  rw [V_main_arg3]
  congr 1
  funext a
  apply Fin.ext
  match a with
  | ⟨0, _⟩ => show win0_3.index t 0 * 1 + 1 * 0 = 0; rw [hi.1]
  | ⟨1, _⟩ => show win0_3.index t 1 * 2048 + 1 * n.val = n.val; rw [hi.2]; omega

/-- Row `r` of block `t` is row `1024 t + r` of the arguments. -/
theorem blockRow_eq (t : Fin cfg0.N) (r : Fin 1024) :
    blockRow (iblk m c 0 t) (iblk m c 1 t) (iblk m c 2 t) (iblk m c 3 t) r
      = Row.argRow (arg0 m c) (arg1 m c) (arg2 m c) (arg3 m c) ⟨t.val * 1024 + r.val, by have := point_lt t; omega⟩ := by
  have ht := point_lt t
  have hr := r.isLt
  unfold blockRow Row.argRow
  have e0 : (fun k => (iblk m c 0 t : Vec Ideal S1024x4096 .fp8e4m3) (ix2 r k)) = fun k : Fin 4096 => arg0 m c
      (ix3 ⟨(t.val * 1024 + r.val) / 4096, by omega⟩ ⟨(t.val * 1024 + r.val) % 4096, by omega⟩ k) :=
    funext fun k => (block0_apply m c t r k).trans (entry0_apply m c _ k)
  have e2 : (fun (k : Fin 4096) (n : Fin 2048) => (iblk m c 2 t : Vec Ideal S4096x2048 .fp8e4m3) (ix2 k n)) = fun k n => arg2 m c (ix2 k n) :=
    funext fun k => funext fun n => block2_apply m c t k n
  have e3 : (fun n : Fin 2048 => (iblk m c 3 t : Vec Ideal S1x2048 .f32) (ix2 0 n)) = fun n => arg3 m c (ix2 0 n) :=
    funext fun n => block3_apply m c t n
  have e1 : (iblk m c 1 t : Vec Ideal S1x8x128 .f32) (ix3 0 ⟨r.val / 128, by omega⟩ ⟨r.val % 128, by omega⟩) = arg1 m c
      (ix3 ⟨(t.val * 1024 + r.val) / 4096, by omega⟩ ⟨(t.val * 1024 + r.val) % 4096, by omega⟩ 0) := by
    refine (block1_apply m c t _ _).trans ((entry1_apply m c _ _ _).trans ?_)
    have h : t.val * 1024 + r.val / 128 * 128 + r.val % 128 = t.val * 1024 + r.val := by omega
    simp only [h]
  rw [e0, e1, e2, e3]

/-- The first result array, as a function of the arguments as launched. -/
abbrev codesOf : Vec Ideal S12288x1024 .fp8e4m3 := Row.resultCodes (arg0 m c) (arg1 m c) (arg2 m c) (arg3 m c)

/-- The second result array, as a function of the arguments as launched. -/
abbrev scalesOf : Vec Ideal S12x8x128 .f32 := Row.resultScales (arg0 m c) (arg1 m c) (arg2 m c) (arg3 m c)

/-- Point `t` writes back block `t` of the codes. -/
theorem flushed_codes (t : Fin cfg0.N) :
    (dats m 0 c).flushed 4 t = ((cfg0.win 4).blk t).view.read (Elt Ideal) (codesOf m c) := by
  have hi := (index_eq t).2.2.2.2.1
  have ht := point_lt t
  rw [Value.flushed4_A, out4_eq]
  funext j
  obtain ⟨r, n, rfl⟩ : ∃ (r n : Fin 1024), j = (ix2 r n : S1024x1024.Idx) := ⟨j 0, j 1, by funext d; fin_cases d <;> rfl⟩
  have hj : ((cfg0.win 4).blk t).view.emb (ix2 r n : S1024x1024.Idx) = (ix2 ⟨t.val * 1024 + r.val, by omega⟩ n : S12288x1024.Idx) := by
    funext a
    apply Fin.ext
    match a with
    | ⟨0, _⟩ => show win0_4.index t 0 * 1024 + 1 * r.val = t.val * 1024 + r.val; rw [hi.1]; omega
    | ⟨1, _⟩ => show win0_4.index t 1 * 1024 + 1 * n.val = n.val; rw [hi.2]; omega
  rw [View.read_apply]
  refine Eq.trans ?_ (congrArg (codesOf m c) hj).symm
  show Row.code (blockRow (iblk m c 0 t) (iblk m c 1 t) (iblk m c 2 t) (iblk m c 3 t) r) n = Row.code (Row.argRow _ _ _ _ _) n
  rw [blockRow_eq]
  rfl

/-- Point `t` writes back slab `t` of the scales. -/
theorem flushed_scales (t : Fin cfg0.N) :
    (dats m 0 c).flushed 5 t = ((cfg0.win 5).blk t).view.read (Elt Ideal) (scalesOf m c) := by
  have hi := (index_eq t).2.2.2.2.2
  have ht := point_lt t
  rw [Value.flushed5_A, out5_eq]
  funext j
  obtain ⟨a, b, l, rfl⟩ : ∃ (a : Fin 1) (b : Fin 8) (l : Fin 128), j = (ix3 a b l : S1x8x128.Idx) :=
    ⟨j 0, j 1, j 2, by funext d; fin_cases d <;> rfl⟩
  obtain rfl : a = 0 := Subsingleton.elim _ _
  have hj : ((cfg0.win 5).blk t).view.emb (ix3 0 b l : S1x8x128.Idx) = (ix3 ⟨t.val, ht⟩ b l : S12x8x128.Idx) := by
    funext a
    apply Fin.ext
    match a with
    | ⟨0, _⟩ => show win0_5.index t 0 * 1 + 1 * 0 = t.val; rw [hi.1]; omega
    | ⟨1, _⟩ => show win0_5.index t 1 * 8 + 1 * b.val = b.val; rw [hi.2.1]; omega
    | ⟨2, _⟩ => show win0_5.index t 2 * 128 + 1 * l.val = l.val; rw [hi.2.2]; omega
  rw [View.read_apply]
  refine Eq.trans ?_ (congrArg (scalesOf m c) hj).symm
  have hrow : t.val * 1024 + (128 * b.val + l.val) = t.val * 1024 + b.val * 128 + l.val := by omega
  show Row.scale (blockRow (iblk m c 0 t) (iblk m c 1 t) (iblk m c 2 t) (iblk m c 3 t) ⟨128 * b.val + l.val, _⟩)
    = Row.scale (Row.argRow _ _ _ _ ⟨t.val * 1024 + b.val * 128 + l.val, _⟩)
  rw [blockRow_eq]
  simp only [hrow]

/-- The blocks of the codes cover them: row `R` is in block `R / 1024`. -/
theorem cover_codes (i : S12288x1024.Idx) :
    ∃ t : Fin cfg0.N, (cfg0.win 4).flush t = true ∧ i ∈ ((cfg0.win 4).blk t).view.set := by
  have h0 : (i 0).val < 12288 := (i 0).isLt
  have h1 : (i 1).val < 1024 := (i 1).isLt
  have hN : cfg0.N = 12 := N_0
  have ht : (i 0).val / 1024 < cfg0.N := by omega
  have hi := (index_eq ⟨(i 0).val / 1024, ht⟩).2.2.2.2.1
  refine ⟨⟨(i 0).val / 1024, ht⟩, flush0_4 _, ?_⟩
  show i ∈ ((View.whole main_v2_0).slice (win0_4.rect ⟨(i 0).val / 1024, ht⟩)).set
  rw [View.set_slice_whole, Rect.mem_set_unit]
  intro a
  match a with
  | ⟨0, _⟩ =>
    show win0_4.index ⟨(i 0).val / 1024, ht⟩ 0 * 1024 ≤ (i 0).val ∧ (i 0).val < win0_4.index ⟨(i 0).val / 1024, ht⟩ 0 * 1024 + 1024
    rw [hi.1]; dsimp only; omega
  | ⟨1, _⟩ =>
    show win0_4.index ⟨(i 0).val / 1024, ht⟩ 1 * 1024 ≤ (i 1).val ∧ (i 1).val < win0_4.index ⟨(i 0).val / 1024, ht⟩ 1 * 1024 + 1024
    rw [hi.2]; omega

/-- The slabs of the scales cover them. -/
theorem cover_scales (i : S12x8x128.Idx) :
    ∃ t : Fin cfg0.N, (cfg0.win 5).flush t = true ∧ i ∈ ((cfg0.win 5).blk t).view.set := by
  have h0 : (i 0).val < 12 := (i 0).isLt
  have h1 : (i 1).val < 8 := (i 1).isLt
  have h2 : (i 2).val < 128 := (i 2).isLt
  have hN : cfg0.N = 12 := N_0
  have ht : (i 0).val < cfg0.N := by omega
  have hi := (index_eq ⟨(i 0).val, ht⟩).2.2.2.2.2
  refine ⟨⟨(i 0).val, ht⟩, flush0_5 _, ?_⟩
  show i ∈ ((View.whole main_v2_1).slice (win0_5.rect ⟨(i 0).val, ht⟩)).set
  rw [View.set_slice_whole, Rect.mem_set_unit]
  intro a
  match a with
  | ⟨0, _⟩ =>
    show win0_5.index ⟨(i 0).val, ht⟩ 0 * 1 ≤ (i 0).val ∧ (i 0).val < win0_5.index ⟨(i 0).val, ht⟩ 0 * 1 + 1
    rw [hi.1]; dsimp only; omega
  | ⟨1, _⟩ =>
    show win0_5.index ⟨(i 0).val, ht⟩ 1 * 8 ≤ (i 1).val ∧ (i 1).val < win0_5.index ⟨(i 0).val, ht⟩ 1 * 8 + 8
    rw [hi.2.1]; omega
  | ⟨2, _⟩ =>
    show win0_5.index ⟨(i 0).val, ht⟩ 2 * 128 ≤ (i 2).val ∧ (i 2).val < win0_5.index ⟨(i 0).val, ht⟩ 2 * 128 + 128
    rw [hi.2.2]; omega

/-- The first result array ends at the codes, -/
theorem final_codes : (dats m 0 c).arrAt 4 cfg0.N = codesOf m c :=
  (dats m 0 c).arrAt_eq_of_cover 4 (codesOf m c) (fun t _ => flushed_codes m c t) cover_codes

/-- and the second at the scales. -/
theorem final_scales : (dats m 0 c).arrAt 5 cfg0.N = scalesOf m c :=
  (dats m 0 c).arrAt_eq_of_cover 5 (scalesOf m c) (fun t _ => flushed_scales m c t) cover_scales

end Cert.KernelIdeal.RowValue
-- ==== Proof.ReferenceValue.lean ====
/-
  What the reference computes: its result arrays, read at an index, are the row functions of the argument arrays.
-/
module

public import proofs.«01_k».proof.Proof.Gen.ReferenceIdeal.Value
public import proofs.«01_k».proof.Proof.Row
public import Idealize.ShloMosaic.Lib.Pointwise

@[expose] public section

noncomputable section

namespace Cert.ReferenceIdeal.RowValue

open Cert.ReferenceIdeal Cert.ReferenceIdeal.Gen Idealize.ShloMosaic Idealize.ShloMosaic.TcCoe Cert.Pow2

/-- The row of gated products of row `r` of the whole arrays. -/
abbrev rowOf (x0 : Vec Ideal S12288x4096 .fp8e4m3) (x1 : Vec Ideal S12288x1 .f32) (x2 : Vec Ideal S4096x2048 .fp8e4m3)
    (x3 : Vec Ideal S1x2048 .f32) (r : Fin 12288) : Fin 1024 → EReal :=
  Row.values (fun k => x0 (ix2 r k)) (x1 (ix2 r 0)) (fun k n => x2 (ix2 k n)) (fun n => x3 (ix2 0 n))

/-- The gated products, read at a row and a column. -/
theorem pay3_apply (x0 : Vec Ideal S12288x4096 .fp8e4m3) (x1 : Vec Ideal S12288x1 .f32) (x2 : Vec Ideal S4096x2048 .fp8e4m3)
    (x3 : Vec Ideal S1x2048 .f32) (r : Fin 12288) (n : Fin 1024) :
    k0_pay3 x0 x2 x1 x3 (ix2 r n) = rowOf x0 x1 x2 x3 r n := by
  pointwise [k0_pay3]
  rfl

/-- The column of ratios of an array of rows. -/
def ratioCol (y : FVec Ideal S12288x1024 .f32) : FVec Ideal S12288x1 .f32 :=
  mulf (shapeCast S12288x1 (multiReduction .maximumf [1] S12288 (absf y) 0xFF800000#32 reduces_S12288x1024_S12288 (.inl rfl) rfl
    : FVec Ideal S12288 .f32) shapeCasts_S12288_S12288x1) (broadcast S12288x1 (Scalar.ofBits .f32 0x3B124925#32))

/-- The row of candidate powers. -/
def powers : FVec Ideal S1x253 .f32 :=
  exp2 (sitofp .f32 (subi (iota .tc S1x253 32 [1] iota_S1x253_d1_w32) (broadcast S1x253 125#32)))

/-- For every ratio and every candidate power, the power where it is above the ratio and infinity elsewhere. -/
def candidates (v : FVec Ideal S12288x1 .f32) : FVec Ideal S12288x253 .f32 :=
  select (cmpf .olt (broadcastTo S12288x253 v broadcasts_S12288x1_S12288x253)
      (broadcastTo S12288x253 powers broadcasts_S1x253_S12288x253))
    (broadcastTo S12288x253 (shapeCast S1x253 powers shapeCasts_S1x253_S1x253) broadcasts_S1x253_S12288x253)
    (broadcast S12288x253 (Scalar.ofBits .f32 0x7F800000#32))

/-- The column of least candidates. -/
def leastCol (v : FVec Ideal S12288x253 .f32) : FVec Ideal S12288x1 .f32 :=
  shapeCast S12288x1 (multiReduction .minimumf [1] S12288 v 0x7F800000#32 reduces_S12288x253_S12288 (.inl rfl) rfl
    : FVec Ideal S12288 .f32) shapeCasts_S12288_S12288x1

/-- The column of scales, from the ratios and the least candidates. -/
def scaleCol (v l : FVec Ideal S12288x1 .f32) : FVec Ideal S12288x1 .f32 :=
  select (ori (cmpf .olt v (broadcast S12288x1 (Scalar.ofBits .f32 0x00800000#32)))
      (cmpf .oeq v (broadcast S12288x1 (Scalar.ofBits .f32 0x7F800000#32))))
    (broadcast S12288x1 (Scalar.ofBits .f32 0x3F800000#32)) l

/-- The printed scales, in these parts. -/
theorem pay4_parts (x0 : Vec Ideal S12288x4096 .fp8e4m3) (x1 : Vec Ideal S12288x1 .f32) (x2 : Vec Ideal S4096x2048 .fp8e4m3)
    (x3 : Vec Ideal S1x2048 .f32) :
    k0_pay4 x0 x2 x1 x3
      = scaleCol (ratioCol (k0_pay3 x0 x2 x1 x3)) (leastCol (candidates (ratioCol (k0_pay3 x0 x2 x1 x3)))) := by
  unfold k0_pay4
  generalize k0_pay3 x0 x2 x1 x3 = y
  rfl

/-- A row's maximum, read at a row. -/
theorem rowMax_apply (y : FVec Ideal S12288x1024 .f32) (r : Fin 12288) :
    shapeCast S12288x1 (multiReduction .maximumf [1] S12288 y 0xFF800000#32 reduces_S12288x1024_S12288 (.inl rfl) rfl
        : FVec Ideal S12288 .f32) shapeCasts_S12288_S12288x1 (ix2 r 0)
      = Finset.univ.fold max (Ideal.ofBits .f32 0xFF800000#32) fun n : Fin 1024 => y (ix2 r n) := by
  pointwise

/-- The row's maximum is over absolute values. -/
theorem rowMax_abs (y : FVec Ideal S12288x1024 .f32) (r : Fin 12288) :
    (Finset.univ.fold max (Ideal.ofBits .f32 0xFF800000#32) fun n : Fin 1024 => absf y (ix2 r n))
      = Finset.univ.fold max (Ideal.ofBits .f32 0xFF800000#32) fun n : Fin 1024 => max (y (ix2 r n)) (-(y (ix2 r n))) := rfl

/-- A column times the ratio's factor, read at a row. -/
theorem mulFactor_apply (m : FVec Ideal S12288x1 .f32) (r : Fin 12288) :
    mulf m (broadcast S12288x1 (Scalar.ofBits .f32 0x3B124925#32)) (ix2 r 0) = m (ix2 r 0) * Ideal.ofBits .f32 0x3B124925#32 := by
  pointwise

/-- The ratios, read at a row. -/
theorem ratioCol_apply (y : FVec Ideal S12288x1024 .f32) (r : Fin 12288) :
    ratioCol y (ix2 r 0) = Row.ratio fun n => y (ix2 r n) := by
  unfold ratioCol Row.ratio
  rw [mulFactor_apply, rowMax_apply, rowMax_abs]

/-- The candidates, read at a row and a power. -/
theorem candidates_apply (v : FVec Ideal S12288x1 .f32) (r : Fin 12288) (j : Fin 253) :
    candidates v (ix2 r j) = if v (ix2 r 0) < thr (j.val + 2) then thr (j.val + 2) else ⊤ := by
  unfold candidates powers
  pointwise
  simp only [power_eq, ofBits_inf]

/-- The least candidates, read at a row. -/
theorem leastCol_apply (v : FVec Ideal S12288x253 .f32) (r : Fin 12288) :
    leastCol v (ix2 r 0) = Finset.univ.fold min ⊤ fun j : Fin 253 => v (ix2 r j) := by
  unfold leastCol
  pointwise
  rw [ofBits_inf]

/-- The scales, read at a row. -/
theorem scaleCol_apply (v l : FVec Ideal S12288x1 .f32) (r : Fin 12288) :
    scaleCol v l (ix2 r 0) = if v (ix2 r 0) < thr 1 ∨ v (ix2 r 0) = ⊤ then 1 else l (ix2 r 0) := by
  unfold scaleCol
  pointwise
  rw [ofBits_inf, ofBits_tiny]
  by_cases h1 : v (ix2 r 0) < thr 1 <;> by_cases h2 : v (ix2 r 0) = ⊤ <;> simp [h1, h2, Scalar.select, IntOp.ori]

/-- The printed scales, read at a row: the row's scale. -/
theorem pay4_apply (x0 : Vec Ideal S12288x4096 .fp8e4m3) (x1 : Vec Ideal S12288x1 .f32) (x2 : Vec Ideal S4096x2048 .fp8e4m3)
    (x3 : Vec Ideal S1x2048 .f32) (r : Fin 12288) :
    k0_pay4 x0 x2 x1 x3 (ix2 r 0) = Row.scale (rowOf x0 x1 x2 x3 r) := by
  rw [pay4_parts, scaleCol_apply, leastCol_apply]
  simp only [candidates_apply, ratioCol_apply, pay3_apply]
  unfold Row.scale refScale leastAbove
  with_reducible rfl

/-- The printed codes, read at a row and a column, from the gated products and the scales. -/
theorem pay1_apply (y : FVec Ideal S12288x1024 .f32) (s : FVec Ideal S12288x1 .f32) (r : Fin 12288) (n : Fin 1024) :
    k0_pay1 y s (Scalar.ofBits .f32 0x3F800000#32) (ix2 r n)
      = min (Ideal.ofBits .f32 0x43E00000#32) (max (Ideal.ofBits .f32 0xC3E00000#32) (y (ix2 r n) * refInverse (s (ix2 r 0)))) := by
  pointwise [k0_pay1]
  rw [ofBits_tiny]
  rfl

/-- The printed table of scales, read at an index: the column of scales in row-major order. -/
theorem pay2_apply (s : FVec Ideal S12288x1 .f32) (t : Fin 12) (i : Fin 8) (l : Fin 128) :
    k0_pay2 s (ix3 t i l) = s (ix2 ⟨t.val * 1024 + i.val * 128 + l.val, by omega⟩ 0) := by
  pointwise [k0_pay2]

/-- Offset zero on both axes. -/
theorem hz2 : (![0, 0] : Fin 2 → Nat) = fun _ => 0 := funext fun a => by fin_cases a <;> rfl

/-- Offset zero on all three axes. -/
theorem hz3 : (![0, 0, 0] : Fin 3 → Nat) = fun _ => 0 := funext fun a => by fin_cases a <;> rfl

/-- The first result's block, read at an index: the row's code. -/
theorem out4_apply (x0 : Vec Ideal S12288x4096 .fp8e4m3) (x1 : Vec Ideal S12288x1 .f32) (x2 : Vec Ideal S4096x2048 .fp8e4m3)
    (x3 : Vec Ideal S1x2048 .f32) (r : Fin 12288) (n : Fin 1024) :
    out0_4 x0 x1 x2 x3 (ix2 r n) = Row.code (rowOf x0 x1 x2 x3 r) n := by
  unfold out0_4 k0_pay5
  rw [View.canon_unit_zero hz2]
  simp only [View.ld_unit_zero (S := S12288x4096) hz2, View.ld_unit_zero (S := S12288x1) hz2,
    View.ld_unit_zero (S := S4096x2048) hz2, View.ld_unit_zero (S := S1x2048) hz2]
  rw [pay1_apply, pay4_apply, pay3_apply]
  rfl

/-- The second result's block, read at an index: the scale of its row. -/
theorem out5_apply (x0 : Vec Ideal S12288x4096 .fp8e4m3) (x1 : Vec Ideal S12288x1 .f32) (x2 : Vec Ideal S4096x2048 .fp8e4m3)
    (x3 : Vec Ideal S1x2048 .f32) (t : Fin 12) (i : Fin 8) (l : Fin 128) :
    out0_5 x0 x1 x2 x3 (ix3 t i l)
      = Row.scale (rowOf x0 x1 x2 x3 ⟨t.val * 1024 + i.val * 128 + l.val, by omega⟩) := by
  unfold out0_5 k0_pay5
  rw [View.canon_unit_zero hz3]
  simp only [View.ld_unit_zero (S := S12288x4096) hz2, View.ld_unit_zero (S := S12288x1) hz2,
    View.ld_unit_zero (S := S4096x2048) hz2, View.ld_unit_zero (S := S1x2048) hz2]
  rw [pay2_apply, pay4_apply]

end Cert.ReferenceIdeal.RowValue
-- ==== Proof.ReferenceArray.lean ====
/-
  What the reference's result arrays hold after the run: every row's codes and every row's scale, of the arguments as launched.
-/
module

public import proofs.«01_k».proof.Proof.ReferenceValue
public import Idealize.ShloMosaic.Lib.Claim

@[expose] public section

noncomputable section

namespace Cert.ReferenceIdeal.RowValue

open Cert.ReferenceIdeal Cert.ReferenceIdeal.Gen Idealize.ShloMosaic Idealize.ShloMosaic.TcCoe Cert.Pow2 Idealize.SL.Sem

variable (m : (ℓ : Loc nD τ sig) → Buf (Elt Ideal) ℓ) (c : Dev nD)

/-- The codes as launched. -/
abbrev arg0 : Vec Ideal S3x4096x4096 .fp8e4m3 := m ((c : Thread nD τ).loc main_arg0)
/-- The row scales as launched. -/
abbrev arg1 : Vec Ideal S3x4096x1 .f32 := m ((c : Thread nD τ).loc main_arg1)
/-- The weights as launched. -/
abbrev arg2 : Vec Ideal S4096x2048 .fp8e4m3 := m ((c : Thread nD τ).loc main_arg2)
/-- The column scales as launched. -/
abbrev arg3 : Vec Ideal S1x2048 .f32 := m ((c : Thread nD τ).loc main_arg3)

/-- The codes as rows, read at an index. -/
theorem entry0_apply (R : Fin 12288) (k : Fin 4096) :
    (V m c (Pipeline.arrRef spec0 0) : Vec Ideal S12288x4096 .fp8e4m3) (ix2 R k)
      = arg0 m c (ix3 ⟨R.val / 4096, by omega⟩ ⟨R.val % 4096, by omega⟩ k) := by
  show (V m c main_v0 : Vec Ideal S12288x4096 .fp8e4m3) (ix2 R k) = _
  entry_read
  pointwise

/-- The row scales as a column, read at an index. -/
theorem entry1_apply (R : Fin 12288) :
    (V m c (Pipeline.arrRef spec0 1) : Vec Ideal S12288x1 .f32) (ix2 R 0)
      = arg1 m c (ix3 ⟨R.val / 4096, by omega⟩ ⟨R.val % 4096, by omega⟩ 0) := by
  show (V m c main_v1 : Vec Ideal S12288x1 .f32) (ix2 R 0) = _
  entry_read
  pointwise

/-- Every window's one block starts at zero. -/
theorem index_eq (t : Fin cfg0.N) :
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0 ∧ win0_5.index t 2 = 0) :=
  (by decide +kernel : ∀ t : Fin grid0.N,
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0 ∧ win0_5.index t 2 = 0)) t

/-- The block of the codes' rows is the whole array. -/
theorem block0_apply (t : Fin cfg0.N) (r : Fin 12288) (n : Fin 4096) :
    (iblk m c 0 t : Vec Ideal S12288x4096 .fp8e4m3) (ix2 r n) = (V m c (Pipeline.arrRef spec0 0) : Vec Ideal S12288x4096 .fp8e4m3) (ix2 r n) := by
  have hi := (index_eq t).1
  have hj : ((cfg0.win 0).blk t).view.emb (ix2 r n : S12288x4096.Idx) = (ix2 r n : S12288x4096.Idx) := by
    funext a
    apply Fin.ext
    match a with
    | ⟨0, _⟩ => show win0_0.index t 0 * 12288 + 1 * r.val = r.val; rw [hi.1]; omega
    | ⟨1, _⟩ => show win0_0.index t 1 * 4096 + 1 * n.val = n.val; rw [hi.2]; omega
  unfold iblk
  generalize V m c (Pipeline.arrRef spec0 0) = X
  rw [View.read_apply]
  exact congrArg X hj

/-- The block of the row scales' column is the whole array. -/
theorem block1_apply (t : Fin cfg0.N) (r : Fin 12288) (n : Fin 1) :
    (iblk m c 1 t : Vec Ideal S12288x1 .f32) (ix2 r n) = (V m c (Pipeline.arrRef spec0 1) : Vec Ideal S12288x1 .f32) (ix2 r n) := by
  have hi := (index_eq t).2.1
  have hj : ((cfg0.win 1).blk t).view.emb (ix2 r n : S12288x1.Idx) = (ix2 r n : S12288x1.Idx) := by
    funext a
    apply Fin.ext
    match a with
    | ⟨0, _⟩ => show win0_1.index t 0 * 12288 + 1 * r.val = r.val; rw [hi.1]; omega
    | ⟨1, _⟩ => show win0_1.index t 1 * 1 + 1 * n.val = n.val; rw [hi.2]; omega
  unfold iblk
  generalize V m c (Pipeline.arrRef spec0 1) = X
  rw [View.read_apply]
  exact congrArg X hj

/-- The block of the weights is the whole array. -/
theorem block2_apply (t : Fin cfg0.N) (r : Fin 4096) (n : Fin 2048) :
    (iblk m c 2 t : Vec Ideal S4096x2048 .fp8e4m3) (ix2 r n) = (V m c (Pipeline.arrRef spec0 2) : Vec Ideal S4096x2048 .fp8e4m3) (ix2 r n) := by
  have hi := (index_eq t).2.2.1
  have hj : ((cfg0.win 2).blk t).view.emb (ix2 r n : S4096x2048.Idx) = (ix2 r n : S4096x2048.Idx) := by
    funext a
    apply Fin.ext
    match a with
    | ⟨0, _⟩ => show win0_2.index t 0 * 4096 + 1 * r.val = r.val; rw [hi.1]; omega
    | ⟨1, _⟩ => show win0_2.index t 1 * 2048 + 1 * n.val = n.val; rw [hi.2]; omega
  unfold iblk
  generalize V m c (Pipeline.arrRef spec0 2) = X
  rw [View.read_apply]
  exact congrArg X hj

/-- The block of the column scales is the whole array. -/
theorem block3_apply (t : Fin cfg0.N) (r : Fin 1) (n : Fin 2048) :
    (iblk m c 3 t : Vec Ideal S1x2048 .f32) (ix2 r n) = (V m c (Pipeline.arrRef spec0 3) : Vec Ideal S1x2048 .f32) (ix2 r n) := by
  have hi := (index_eq t).2.2.2.1
  have hj : ((cfg0.win 3).blk t).view.emb (ix2 r n : S1x2048.Idx) = (ix2 r n : S1x2048.Idx) := by
    funext a
    apply Fin.ext
    match a with
    | ⟨0, _⟩ => show win0_3.index t 0 * 1 + 1 * r.val = r.val; rw [hi.1]; omega
    | ⟨1, _⟩ => show win0_3.index t 1 * 2048 + 1 * n.val = n.val; rw [hi.2]; omega
  unfold iblk
  generalize V m c (Pipeline.arrRef spec0 3) = X
  rw [View.read_apply]
  exact congrArg X hj

/-- The reference's row `R` is row `R` of the arguments. -/
theorem rowOf_eq (t : Fin cfg0.N) (R : Fin 12288) :
    rowOf (iblk m c 0 t) (iblk m c 1 t) (iblk m c 2 t) (iblk m c 3 t) R
      = Row.argRow (arg0 m c) (arg1 m c) (arg2 m c) (arg3 m c) R := by
  unfold rowOf Row.argRow
  have e0 : (fun k => (iblk m c 0 t : Vec Ideal S12288x4096 .fp8e4m3) (ix2 R k)) = fun k : Fin 4096 => arg0 m c
      (ix3 ⟨R.val / 4096, by omega⟩ ⟨R.val % 4096, by omega⟩ k) :=
    funext fun k => (block0_apply m c t R k).trans (entry0_apply m c R k)
  have e1 : (iblk m c 1 t : Vec Ideal S12288x1 .f32) (ix2 R 0) = arg1 m c
      (ix3 ⟨R.val / 4096, by omega⟩ ⟨R.val % 4096, by omega⟩ 0) :=
    (block1_apply m c t R 0).trans (entry1_apply m c R)
  have e2 : (fun (k : Fin 4096) (n : Fin 2048) => (iblk m c 2 t : Vec Ideal S4096x2048 .fp8e4m3) (ix2 k n)) = fun k n => arg2 m c (ix2 k n) :=
    funext fun k => funext fun n => (block2_apply m c t k n).trans (congrFun (V_main_arg2 m c) _)
  have e3 : (fun n : Fin 2048 => (iblk m c 3 t : Vec Ideal S1x2048 .f32) (ix2 0 n)) = fun n => arg3 m c (ix2 0 n) :=
    funext fun n => (block3_apply m c t 0 n).trans (congrFun (V_main_arg3 m c) _)
  rw [e0, e1, e2, e3]

/-- The first result array, as a function of the arguments as launched. -/
abbrev codesOf : Vec Ideal S12288x1024 .fp8e4m3 := Row.resultCodes (arg0 m c) (arg1 m c) (arg2 m c) (arg3 m c)

/-- The second result array, as a function of the arguments as launched. -/
abbrev scalesOf : Vec Ideal S12x8x128 .f32 := Row.resultScales (arg0 m c) (arg1 m c) (arg2 m c) (arg3 m c)

/-- The one point writes back the codes. -/
theorem flushed_codes (t : Fin cfg0.N) :
    (dats m 0 c).flushed 4 t = ((cfg0.win 4).blk t).view.read (Elt Ideal) (codesOf m c) := by
  have hi := (index_eq t).2.2.2.2.1
  rw [Value.flushed4]
  funext j
  obtain ⟨r, n, rfl⟩ : ∃ (r : Fin 12288) (n : Fin 1024), j = (ix2 r n : S12288x1024.Idx) := ⟨j 0, j 1, by funext d; fin_cases d <;> rfl⟩
  have hj : ((cfg0.win 4).blk t).view.emb (ix2 r n : S12288x1024.Idx) = (ix2 r n : S12288x1024.Idx) := by
    funext a
    apply Fin.ext
    match a with
    | ⟨0, _⟩ => show win0_4.index t 0 * 12288 + 1 * r.val = r.val; rw [hi.1]; omega
    | ⟨1, _⟩ => show win0_4.index t 1 * 1024 + 1 * n.val = n.val; rw [hi.2]; omega
  rw [View.read_apply]
  refine Eq.trans ?_ (congrArg (codesOf m c) hj).symm
  refine (out4_apply (iblk m c 0 t) (iblk m c 1 t) (iblk m c 2 t) (iblk m c 3 t) r n).trans ?_
  rw [rowOf_eq]
  rfl

/-- The one point writes back the scales. -/
theorem flushed_scales (t : Fin cfg0.N) :
    (dats m 0 c).flushed 5 t = ((cfg0.win 5).blk t).view.read (Elt Ideal) (scalesOf m c) := by
  have hi := (index_eq t).2.2.2.2.2
  rw [Value.flushed5]
  funext j
  obtain ⟨a, b, l, rfl⟩ : ∃ (a : Fin 12) (b : Fin 8) (l : Fin 128), j = (ix3 a b l : S12x8x128.Idx) :=
    ⟨j 0, j 1, j 2, by funext d; fin_cases d <;> rfl⟩
  have hj : ((cfg0.win 5).blk t).view.emb (ix3 a b l : S12x8x128.Idx) = (ix3 a b l : S12x8x128.Idx) := by
    funext d
    apply Fin.ext
    match d with
    | ⟨0, _⟩ => show win0_5.index t 0 * 12 + 1 * a.val = a.val; rw [hi.1]; omega
    | ⟨1, _⟩ => show win0_5.index t 1 * 8 + 1 * b.val = b.val; rw [hi.2.1]; omega
    | ⟨2, _⟩ => show win0_5.index t 2 * 128 + 1 * l.val = l.val; rw [hi.2.2]; omega
  rw [View.read_apply]
  refine Eq.trans ?_ (congrArg (scalesOf m c) hj).symm
  refine (out5_apply (iblk m c 0 t) (iblk m c 1 t) (iblk m c 2 t) (iblk m c 3 t) a b l).trans ?_
  rw [rowOf_eq]
  rfl

/-- The one block of the codes covers them. -/
theorem cover_codes (i : S12288x1024.Idx) :
    ∃ t : Fin cfg0.N, (cfg0.win 4).flush t = true ∧ i ∈ ((cfg0.win 4).blk t).view.set := by
  have h0 : (i 0).val < 12288 := (i 0).isLt
  have h1 : (i 1).val < 1024 := (i 1).isLt
  have hi := (index_eq t0_0).2.2.2.2.1
  refine ⟨t0_0, flush0_4 _, ?_⟩
  show i ∈ ((View.whole main_v2_0).slice (win0_4.rect t0_0)).set
  rw [View.set_slice_whole, Rect.mem_set_unit]
  intro a
  match a with
  | ⟨0, _⟩ =>
    show win0_4.index t0_0 0 * 12288 ≤ (i 0).val ∧ (i 0).val < win0_4.index t0_0 0 * 12288 + 12288
    rw [hi.1]; omega
  | ⟨1, _⟩ =>
    show win0_4.index t0_0 1 * 1024 ≤ (i 1).val ∧ (i 1).val < win0_4.index t0_0 1 * 1024 + 1024
    rw [hi.2]; omega

/-- The one block of the scales covers them. -/
theorem cover_scales (i : S12x8x128.Idx) :
    ∃ t : Fin cfg0.N, (cfg0.win 5).flush t = true ∧ i ∈ ((cfg0.win 5).blk t).view.set := by
  have h0 : (i 0).val < 12 := (i 0).isLt
  have h1 : (i 1).val < 8 := (i 1).isLt
  have h2 : (i 2).val < 128 := (i 2).isLt
  have hi := (index_eq t0_0).2.2.2.2.2
  refine ⟨t0_0, flush0_5 _, ?_⟩
  show i ∈ ((View.whole main_v2_1).slice (win0_5.rect t0_0)).set
  rw [View.set_slice_whole, Rect.mem_set_unit]
  intro a
  match a with
  | ⟨0, _⟩ =>
    show win0_5.index t0_0 0 * 12 ≤ (i 0).val ∧ (i 0).val < win0_5.index t0_0 0 * 12 + 12
    rw [hi.1]; omega
  | ⟨1, _⟩ =>
    show win0_5.index t0_0 1 * 8 ≤ (i 1).val ∧ (i 1).val < win0_5.index t0_0 1 * 8 + 8
    rw [hi.2.1]; omega
  | ⟨2, _⟩ =>
    show win0_5.index t0_0 2 * 128 ≤ (i 2).val ∧ (i 2).val < win0_5.index t0_0 2 * 128 + 128
    rw [hi.2.2]; omega

/-- The first result array ends at the codes, -/
theorem final_codes : (dats m 0 c).arrAt 4 cfg0.N = codesOf m c :=
  (dats m 0 c).arrAt_eq_of_cover 4 (codesOf m c) (fun t _ => flushed_codes m c t) cover_codes

/-- and the second at the scales. -/
theorem final_scales : (dats m 0 c).arrAt 5 cfg0.N = scalesOf m c :=
  (dats m 0 c).arrAt_eq_of_cover 5 (scalesOf m c) (fun t _ => flushed_scales m c t) cover_scales

end Cert.ReferenceIdeal.RowValue
-- ==== Proof.lean ====
/-
  The certificate: the three programs run to their end and keep their arguments; the ideal program is the kernel's own text;
  over the extended reals the kernel and the reference end with equal results.
-/
module

public import proofs.«01_k».proof.Defs
public import proofs.«01_k».proof.Proof.Gen.Kernel.Frame
public import proofs.«01_k».proof.Proof.Gen.KernelIdeal.Value
public import proofs.«01_k».proof.Proof.Gen.ReferenceIdeal.Value
public import proofs.«01_k».proof.Proof.KernelArray
public import proofs.«01_k».proof.Proof.ReferenceArray

@[expose] public section

open Idealize.ShloMosaic Idealize.ShloMosaic.TcCoe Idealize.SL.Sem

/-- Over the extended reals the kernel's two result arrays are the reference's: both programs end with every row's codes in
    the first and every row's scale in the second, as functions of the arguments, which they leave alone. -/
theorem Cert.Proof.algebraic :
    Cert.algebraic_KernelIdeal_ReferenceIdeal (hKernelIdeal := Cert.KernelIdeal.Gen.facts)
      (hReferenceIdeal := Cert.ReferenceIdeal.Gen.facts) := by
  intro m g m' g' _ hagree
  refine ⟨fun c => Cert.KernelIdeal.RowValue.codesOf m c, fun c => Cert.KernelIdeal.RowValue.scalesOf m c, ?_, ?_⟩
  · exact (θ_run Cert.KernelIdeal.defs _ _).mono
      (fun _ h c => ⟨(h c).1.trans (Cert.KernelIdeal.RowValue.final_codes m c),
        (h c).2.1.trans (Cert.KernelIdeal.RowValue.final_scales m c), (h c).2.2⟩)
      (Cert.KernelIdeal.Value.run_blocks (F := Ideal) m g)
  · have hcodes (c : Dev Cert.KernelIdeal.nD) :
        Cert.ReferenceIdeal.RowValue.codesOf m' c = Cert.KernelIdeal.RowValue.codesOf m c := by
      obtain ⟨h0, h1, h2, h3⟩ := hagree c
      have h := congr (congr (congr (congrArg Cert.Row.resultCodes h0) h1) h2) h3
      exact h
    have hscales (c : Dev Cert.KernelIdeal.nD) :
        Cert.ReferenceIdeal.RowValue.scalesOf m' c = Cert.KernelIdeal.RowValue.scalesOf m c := by
      obtain ⟨h0, h1, h2, h3⟩ := hagree c
      have h := congr (congr (congr (congrArg Cert.Row.resultScales h0) h1) h2) h3
      exact h
    exact (θ_run Cert.ReferenceIdeal.defs _ _).mono
      (fun _ h c => ⟨((h c).1.trans (Cert.ReferenceIdeal.RowValue.final_codes m' c)).trans (hcodes c),
        ((h c).2.1.trans (Cert.ReferenceIdeal.RowValue.final_scales m' c)).trans (hscales c), (h c).2.2⟩)
      (Cert.ReferenceIdeal.Value.run_blocks (F := Ideal) m' g')

/-- The five claims. -/
theorem Cert.Proof.claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, Cert.Proof.algebraic⟩
